-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x512x1024 .f32) (main_arg1 : FVec F S1024x1024 .f32) (main_arg2 : FVec F S1024x1024 .f32) (main_arg3 : FVec F S1x2048x8x128 .f32) (main_arg4 : FVec F S1x2048x8x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg3
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x4096 : Shape := ⟨2, ![1024, 4096]⟩
abbrev S4096x1024 : Shape := ⟨2, ![4096, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x512x1024 .f32) (main_arg1 : FVec F S1024x4096 .f32) (main_arg2 : FVec F S4096x1024 .f32) (main_arg3 : FVec F S1x2048x8x128 .f32) (main_arg4 : FVec F S1x2048x8x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x8x128 .f32 := Host.absf main_arg3
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S2x2048x128 : Shape := ⟨3, ![2, 2048, 128]⟩
abbrev S2x4x128x1024 : Shape := ⟨4, ![2, 4, 128, 1024]⟩
abbrev S4 : Shape := ⟨1, ![4]⟩
abbrev S2x4 : Shape := ⟨2, ![2, 4]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S1x2048x1x128 : Shape := ⟨4, ![1, 2048, 1, 128]⟩
abbrev S512x1024 : Shape := ⟨2, ![512, 1024]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S128x1024 : Shape := ⟨2, ![128, 1024]⟩
abbrev S1x128x1024 : Shape := ⟨3, ![1, 128, 1024]⟩
abbrev S1x1x128x1024 : Shape := ⟨4, ![1, 1, 128, 1024]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1x2048x8x128, .f32⟩
  | .hbm, ⟨4, _⟩ => ⟨S1x2048x8x128, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S2x2048x128, .f32⟩
  | .local _ .vmem, ⟨5, _⟩ => ⟨S2x2048x128, .f32⟩
  | .local _ .vmem, ⟨6, _⟩ => ⟨S2x4x128x1024, .bf16⟩
  | .local _ .vmem, ⟨7, _⟩ => ⟨S2x4x128x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) (c0_i32_7 : BitVec 32) : Fin 4 → Nat :=
  let c0_i32_8 : BitVec 32 := 0#32
  let c0_i32_13 : BitVec 32 := 0#32
  let c2_i32_6 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.muli c2_i32_6 v2
  let v11 : BitVec 32 := Scalar.addi v10 c0_i32_7
  let c0_i32_14 : BitVec 32 := 0#32
  ![0, 0, v11.toNat, 0]
def k0_dev3 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_124 : BitVec 32 := 1#32
  let v169 : BitVec 32 := Scalar.muli v3 c1_i32_124
  let v170 : BitVec 32 := Scalar.addi c0_i32_125 v169
  v170.toNat
def k0_dev4 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_169 : BitVec 32 := 1#32
  let v261 : BitVec 32 := Scalar.muli v3 c1_i32_169
  let v262 : BitVec 32 := Scalar.addi c0_i32_170 v261
  v262.toNat
def k0_dev5 (d0 : Dev nD) : Nat :=
  let c0_i32_212 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_211 : BitVec 32 := 1#32
  let v292 : BitVec 32 := Scalar.muli v4 c1_i32_211
  let v293 : BitVec 32 := Scalar.addi c0_i32_212 v292
  v293.toNat
def k0_dev6 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_255 : BitVec 32 := 1#32
  let v384 : BitVec 32 := Scalar.muli v3 c1_i32_255
  let v385 : BitVec 32 := Scalar.addi c0_i32_256 v384
  v385.toNat
def k0_dev7 (d0 : Dev nD) : Nat :=
  let c0_i32_298 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_297 : BitVec 32 := 1#32
  let v415 : BitVec 32 := Scalar.muli v4 c1_i32_297
  let v416 : BitVec 32 := Scalar.addi c0_i32_298 v415
  v416.toNat
def k0_dev8 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_341 : BitVec 32 := 1#32
  let v507 : BitVec 32 := Scalar.muli v3 c1_i32_341
  let v508 : BitVec 32 := Scalar.addi c0_i32_342 v507
  v508.toNat
def k0_dev9 (d0 : Dev nD) : Nat :=
  let c0_i32_384 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_383 : BitVec 32 := 1#32
  let v538 : BitVec 32 := Scalar.muli v4 c1_i32_383
  let v539 : BitVec 32 := Scalar.addi c0_i32_384 v538
  v539.toNat
def k0_dev10 (d0 : Dev nD) : Nat :=
  let c0_i32_426 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_425 : BitVec 32 := 1#32
  let v569 : BitVec 32 := Scalar.muli v4 c1_i32_425
  let v570 : BitVec 32 := Scalar.addi c0_i32_426 v569
  v570.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x4096 : Shape := ⟨2, ![1024, 4096]⟩
abbrev S4096x1024 : Shape := ⟨2, ![4096, 1024]⟩
abbrev S1x2048x8x128 : Shape := ⟨4, ![1, 2048, 8, 128]⟩
abbrev S1x512x4096 : Shape := ⟨3, ![1, 512, 4096]⟩
abbrev S1x512x32x128 : Shape := ⟨4, ![1, 512, 32, 128]⟩
abbrev S1x2048x8x4x128 : Shape := ⟨5, ![1, 2048, 8, 4, 128]⟩
abbrev S1x2048x32x128 : Shape := ⟨4, ![1, 2048, 32, 128]⟩
abbrev S_ : Shape := ⟨0, ![]⟩
abbrev S1x32x512x1 : Shape := ⟨4, ![1, 32, 512, 1]⟩
abbrev S1x1024x32x128 : Shape := ⟨4, ![1, 1024, 32, 128]⟩
abbrev S1x32x512x1024 : Shape := ⟨4, ![1, 32, 512, 1024]⟩
abbrev S1x32x512 : Shape := ⟨3, ![1, 32, 512]⟩
abbrev S1x512x32x1 : Shape := ⟨4, ![1, 512, 32, 1]⟩
abbrev S1x32x128x512 : Shape := ⟨4, ![1, 32, 128, 512]⟩

abbrev nBuf : Space → Nat
  | .hbm => 74
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x4096, .f32⟩
  | .hbm, ⟨2, _⟩ => ⟨S4096x1024, .f32⟩
  | .hbm, ⟨3, _⟩ => ⟨S1x2048x8x128, .f32⟩
  | .hbm, ⟨4, _⟩ => ⟨S1x2048x8x128, .f32⟩
  | .hbm, ⟨5, _⟩ => ⟨S1x512x4096, .f32⟩
  | .hbm, ⟨6, _⟩ => ⟨S1x512x32x128, .f32⟩
  | .hbm, ⟨7, _⟩ => ⟨S1x2048x8x4x128, .f32⟩
  | .hbm, ⟨8, _⟩ => ⟨S1x2048x32x128, .f32⟩
  | .hbm, ⟨9, _⟩ => ⟨S1x2048x8x4x128, .f32⟩
  | .hbm, ⟨10, _⟩ => ⟨S1x2048x32x128, .f32⟩
  | .hbm, ⟨11, _⟩ => ⟨S_, .f32⟩
  | .hbm, ⟨12, _⟩ => ⟨S1x512x32x128, .f32⟩
  | .hbm, ⟨13, _⟩ => ⟨S_, .f32⟩
  | .hbm, ⟨14, _⟩ => ⟨S1x32x512x1, .f32⟩
  | .hbm, ⟨15, _⟩ => ⟨S_, .f32⟩
  | .hbm, ⟨16, _⟩ => ⟨S1x32x512x1, .f32⟩
  | .hbm, ⟨17, _⟩ => ⟨S1x1024x32x128, .f32⟩
  | .hbm, ⟨18, _⟩ => ⟨S1x1024x32x128, .f32⟩
  | .hbm, ⟨19, _⟩ => ⟨S1x32x512x1024, .f32⟩
  | .hbm, ⟨20, _⟩ => ⟨S_, .f32⟩
  | .hbm, ⟨21, _⟩ => ⟨S1x32x512x1024, .f32⟩
  | .hbm, ⟨22, _⟩ => ⟨S1x32x512x1024, .f32⟩
  | .hbm, ⟨23, _⟩ => ⟨S_, .f32⟩
  | .hbm, ⟨24, _⟩ => ⟨S1x32x512, .f32⟩
  | .hbm, ⟨25, _⟩ => ⟨S1x32x512x1, .f32⟩
  | .hbm, ⟨26, _⟩ => ⟨S1x32x512x1, .f32⟩
  | .hbm, ⟨27, _⟩ => ⟨S1x32x512x1, .f32⟩
  | .hbm, ⟨28, _⟩ => ⟨S1x32x512x1, .f32⟩
  | .hbm, ⟨29, _⟩ => ⟨S1x32x512x1024, .f32⟩
  | .hbm, ⟨30, _⟩ => ⟨S1x32x512x1024, .f32⟩
  | .hbm, ⟨31, _⟩ => ⟨S1x32x512x1024, .f32⟩
  | .hbm, ⟨32, _⟩ => ⟨S1x32x512x1, .f32⟩
  | .hbm, ⟨33, _⟩ => ⟨S_, .f32⟩
  | .hbm, ⟨34, _⟩ => ⟨S1x32x512, .f32⟩
  | .hbm, ⟨35, _⟩ => ⟨S1x32x512x1, .f32⟩
  | .hbm, ⟨36, _⟩ => ⟨S1x32x512x1, .f32⟩
  | .hbm, ⟨37, _⟩ => ⟨S1x512x32x1, .f32⟩
  | .hbm, ⟨38, _⟩ => ⟨S1x512x32x128, .f32⟩
  | .hbm, ⟨39, _⟩ => ⟨S1x512x32x128, .f32⟩
  | .hbm, ⟨40, _⟩ => ⟨S1x32x128x512, .f32⟩
  | .hbm, ⟨41, _⟩ => ⟨S1x512x32x128, .f32⟩
  | .hbm, ⟨42, _⟩ => ⟨S1x512x32x128, .f32⟩
  | .hbm, ⟨43, _⟩ => ⟨S1x1024x32x128, .f32⟩
  | .hbm, ⟨44, _⟩ => ⟨S1x1024x32x128, .f32⟩
  | .hbm, ⟨45, _⟩ => ⟨S1x32x512x1024, .f32⟩
  | .hbm, ⟨46, _⟩ => ⟨S_, .f32⟩
  | .hbm, ⟨47, _⟩ => ⟨S1x32x512x1024, .f32⟩
  | .hbm, ⟨48, _⟩ => ⟨S1x32x512x1024, .f32⟩
  | .hbm, ⟨49, _⟩ => ⟨S_, .f32⟩
  | .hbm, ⟨50, _⟩ => ⟨S1x32x512, .f32⟩
  | .hbm, ⟨51, _⟩ => ⟨S1x32x512x1, .f32⟩
  | .hbm, ⟨52, _⟩ => ⟨S1x32x512x1, .f32⟩
  | .hbm, ⟨53, _⟩ => ⟨S1x32x512x1, .f32⟩
  | .hbm, ⟨54, _⟩ => ⟨S1x32x512x1, .f32⟩
  | .hbm, ⟨55, _⟩ => ⟨S1x32x512x1024, .f32⟩
  | .hbm, ⟨56, _⟩ => ⟨S1x32x512x1024, .f32⟩
  | .hbm, ⟨57, _⟩ => ⟨S1x32x512x1024, .f32⟩
  | .hbm, ⟨58, _⟩ => ⟨S1x32x512x1, .f32⟩
  | .hbm, ⟨59, _⟩ => ⟨S_, .f32⟩
  | .hbm, ⟨60, _⟩ => ⟨S1x32x512, .f32⟩
  | .hbm, ⟨61, _⟩ => ⟨S1x32x512x1, .f32⟩
  | .hbm, ⟨62, _⟩ => ⟨S1x32x512x1, .f32⟩
  | .hbm, ⟨63, _⟩ => ⟨S1x512x32x1, .f32⟩
  | .hbm, ⟨64, _⟩ => ⟨S1x512x32x128, .f32⟩
  | .hbm, ⟨65, _⟩ => ⟨S1x512x32x128, .f32⟩
  | .hbm, ⟨66, _⟩ => ⟨S1x32x128x512, .f32⟩
  | .hbm, ⟨67, _⟩ => ⟨S1x512x32x128, .f32⟩
  | .hbm, ⟨68, _⟩ => ⟨S1x512x32x128, .f32⟩
  | .hbm, ⟨69, _⟩ => ⟨S1x512x32x1, .f32⟩
  | .hbm, ⟨70, _⟩ => ⟨S1x512x32x128, .f32⟩
  | .hbm, ⟨71, _⟩ => ⟨S1x512x32x128, .f32⟩
  | .hbm, ⟨72, _⟩ => ⟨S1x512x4096, .f32⟩
  | .hbm, ⟨73, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Proto.lean ====
/-
The protocol of the attention kernel's exchange, stated once over any float values: the two partners of a device, the
buffers' slots, the twenty-one semaphore cells of a device and the schedule of what each hands over, what a device owes at
launch, and the levels its waits are ordered by.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partners -/

set_option backward.proofsInPublic true in
/-- The partner of stage 0: the device whose number differs in the last bit. -/
def peer0 (c : Dev nD) : Dev nD := ⟨c.val ^^^ 1, by revert c; decide⟩
set_option backward.proofsInPublic true in
/-- The partner of stage 1: the mirror image. -/
def peer1 (c : Dev nD) : Dev nD := ⟨3 - c.val, by revert c; decide⟩

/-- The partner of stage `st`. -/
def peer (st : Fin 2) (c : Dev nD) : Dev nD := if st = 0 then peer0 c else peer1 c

/-- A neighbour's neighbour in the same exchange is the device itself. -/
theorem peer_peer (st : Fin 2) (c : Dev nD) : peer st (peer st c) = c := by revert st c; decide

/-- The partner maps are their own inverses. -/
def swap (st : Fin 2) : Dev nD ≃ Dev nD := ⟨peer st, peer st, peer_peer st, peer_peer st⟩

/-- Signal or copy 1 of the printed body goes to this neighbour. -/
theorem dev1_eq (c : Dev nD) : (⟨k0_dev1 c, k0_dev1_lt c⟩ : Dev nD) = peer 0 c := by revert c; decide +kernel
/-- Signal or copy 2 of the printed body goes to this neighbour. -/
theorem dev2_eq (c : Dev nD) : (⟨k0_dev2 c, k0_dev2_lt c⟩ : Dev nD) = peer 1 c := by revert c; decide +kernel
/-- Signal or copy 3 of the printed body goes to this neighbour. -/
theorem dev3_eq (c : Dev nD) : (⟨k0_dev3 c, k0_dev3_lt c⟩ : Dev nD) = peer 0 c := by revert c; decide +kernel
/-- Signal or copy 4 of the printed body goes to this neighbour. -/
theorem dev4_eq (c : Dev nD) : (⟨k0_dev4 c, k0_dev4_lt c⟩ : Dev nD) = peer 0 c := by revert c; decide +kernel
/-- Signal or copy 5 of the printed body goes to this neighbour. -/
theorem dev5_eq (c : Dev nD) : (⟨k0_dev5 c, k0_dev5_lt c⟩ : Dev nD) = peer 1 c := by revert c; decide +kernel
/-- Signal or copy 6 of the printed body goes to this neighbour. -/
theorem dev6_eq (c : Dev nD) : (⟨k0_dev6 c, k0_dev6_lt c⟩ : Dev nD) = peer 0 c := by revert c; decide +kernel
/-- Signal or copy 7 of the printed body goes to this neighbour. -/
theorem dev7_eq (c : Dev nD) : (⟨k0_dev7 c, k0_dev7_lt c⟩ : Dev nD) = peer 1 c := by revert c; decide +kernel
/-- Signal or copy 8 of the printed body goes to this neighbour. -/
theorem dev8_eq (c : Dev nD) : (⟨k0_dev8 c, k0_dev8_lt c⟩ : Dev nD) = peer 0 c := by revert c; decide +kernel
/-- Signal or copy 9 of the printed body goes to this neighbour. -/
theorem dev9_eq (c : Dev nD) : (⟨k0_dev9 c, k0_dev9_lt c⟩ : Dev nD) = peer 1 c := by revert c; decide +kernel
/-- Signal or copy 10 of the printed body goes to this neighbour. -/
theorem dev10_eq (c : Dev nD) : (⟨k0_dev10 c, k0_dev10_lt c⟩ : Dev nD) = peer 1 c := by revert c; decide +kernel

/-! ## The buffers and their slots -/

abbrev xM : Memref sig .tc .vmem S1x512x1024 .f32 := Memref.whole cc0_stg0_0
abbrev qM : Memref sig .tc .vmem S1024x1024 .f32 := Memref.whole cc0_stg1_0
abbrev oM : Memref sig .tc .vmem S1024x1024 .f32 := Memref.whole cc0_stg2_0
abbrev outM : Memref sig .tc .vmem S1x512x1024 .f32 := Memref.whole cc0_stg3_0
abbrev khM : Memref sig .tc .hbm S1x2048x8x128 .f32 := Memref.whole main_arg3
abbrev vhM : Memref sig .tc .hbm S1x2048x8x128 .f32 := Memref.whole main_arg4
abbrev kM : Memref sig .tc .vmem S2x2048x128 .f32 := Memref.whole cc0_scratch0
abbrev vM : Memref sig .tc .vmem S2x2048x128 .f32 := Memref.whole cc0_scratch1
abbrev sM : Memref sig .tc .vmem S2x4x128x1024 .bf16 := Memref.whole cc0_scratch2
abbrev rM : Memref sig .tc .vmem S2x4x128x1024 .bf16 := Memref.whole cc0_scratch3

/-- A block's slot of a send or receive buffer lies inside the buffer. -/
theorem slot_inb (st : Fin 2) (b : Fin 4) : ∀ a, (![st.val, b.val, 0, 0] : Fin 4 → ℕ) a + S1x1x128x1024.size a ≤ S2x4x128x1024.size a := by
  revert st b; decide
/-- One head's keys or values lie inside their buffer. -/
theorem half_inb (j : Fin 2) : ∀ a, (![j.val, 0, 0] : Fin 3 → ℕ) a + S1x2048x128.size a ≤ S2x2048x128.size a := by
  revert j; decide
/-- A block of rows lies inside the result. -/
theorem row_inb (b : Fin 4) : ∀ a, (![0, 128 * b.val, 0] : Fin 3 → ℕ) a + S1x128x1024.size a ≤ S1x512x1024.size a := by
  revert b; decide

/-- Slot `(st, b)` of the send or the landing buffer. -/
abbrev slotR (st : Fin 2) (b : Fin 4) : Rect S2x4x128x1024 :=
  Rect.unit (s := S2x4x128x1024) ![st.val, b.val, 0, 0] S1x1x128x1024.size (slot_inb st b)
/-- Half `j` of the buffer of keys or of values. -/
abbrev halfR (j : Fin 2) : Rect S2x2048x128 := Rect.unit (s := S2x2048x128) ![j.val, 0, 0] S1x2048x128.size (half_inb j)
/-- Rows `128 b` to `128 b + 127` of the result. -/
abbrev rowR (b : Fin 4) : Rect S1x512x1024 := Rect.unit (s := S1x512x1024) ![0, 128 * b.val, 0] S1x128x1024.size (row_inb b)
/-- One head of the keys or of the values in the big memory: head `2 c + r`. -/
abbrev headR (c : Dev nD) (r : Fin 2) : Rect S1x2048x8x128 :=
  Rect.unit (s := S1x2048x8x128) (k0_off1 c (BitVec.ofNat 32 r.val)) S1x2048x1x128.size (k0_off1_inb c r)

abbrev sV (st : Fin 2) (b : Fin 4) : View sig .tc .vmem S1x1x128x1024 .bf16 := sM.access (slotR st b)
abbrev rV (st : Fin 2) (b : Fin 4) : View sig .tc .vmem S1x1x128x1024 .bf16 := rM.access (slotR st b)
abbrev kV (j : Fin 2) : View sig .tc .vmem S1x2048x128 .f32 := kM.access (halfR j)
abbrev vV (j : Fin 2) : View sig .tc .vmem S1x2048x128 .f32 := vM.access (halfR j)
abbrev outV (b : Fin 4) : View sig .tc .vmem S1x128x1024 .f32 := outM.access (rowR b)

/-- The key head device `c` copies first (`r = 0`) or second. -/
abbrev khV (c : Dev nD) (r : Fin 2) : View sig .tc .hbm S2048x128 .f32 :=
  (khM.access (headR c r)).reshape S2048x128 squeezes_S1x2048x1x128_S2048x128.numel_eq
abbrev vhV (c : Dev nD) (r : Fin 2) : View sig .tc .hbm S2048x128 .f32 :=
  (vhM.access (headR c r)).reshape S2048x128 squeezes_S1x2048x1x128_S2048x128.numel_eq

/-- Device `c` holds the elements under the view `v`, share `q`, at contents that read `w`. -/
def holds {sp : Space} {s : Shape} {e : EltTy} (v : View sig .tc sp s e) (c : Dev nD) (q : PosShare TreeShare)
    (w : s.Idx → Elt F e) : sProp 𝕄 :=
  iprop(∃ f, ⌜v.read (Elt F) f = w⌝ ∗ (v.loc (c : Thread nD τ) ↦[v.set]{q} f))

/-- and at contents that read anything. -/
def holdsAny {sp : Space} {s : Shape} {e : EltTy} (v : View sig .tc sp s e) (c : Dev nD) : sProp 𝕄 :=
  iprop(∃ w : s.Idx → Elt F e, holds v c fullShare w)

omit [FloatOps F] in
instance holds_storable {sp : Space} {s : Shape} {e : EltTy} (v : View sig .tc sp s e) (c : Dev nD) (q) (w : s.Idx → Elt F e) :
    BI.Storable (upEmb : UEmb _ 𝕄) (holds (F := F) v c q w) := by unfold holds; infer_instance
omit [FloatOps F] in
instance holdsAny_storable {sp : Space} {s : Shape} {e : EltTy} (v : View sig .tc sp s e) (c : Dev nD) :
    BI.Storable (upEmb : UEmb _ 𝕄) (holdsAny (F := F) v c) := by unfold holdsAny; infer_instance

omit [FloatOps F] in
/-- What a view reads after a write through its re-indexing at another shape. -/
theorem read_write_reshape {sp : Space} {s s' : Shape} {e : EltTy} (v : View sig .tc sp s e) (h : s'.numel = s.numel)
    (f : v.ty.Contents (Elt F)) (w : s'.Idx → Elt F e) :
    v.read (Elt F) ((v.reshape s' h).write (Elt F) f w Finset.univ) = fun y => w ((Shape.reshapeEquiv h).symm y) := by
  have h1 := View.read_write_univ (v := v.reshape s' h) (Val := Elt F) f w
  funext y
  have h2 := congrFun h1 ((Shape.reshapeEquiv h).symm y)
  rw [← h2]
  show _ = v.read (Elt F) _ (Shape.reshapeEquiv h ((Shape.reshapeEquiv h).symm y))
  rw [Equiv.apply_symm_apply]

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def qstg (c : Dev nD) : (cc0_stg1_0 : Ref sig .tc).ty.Contents (Elt F) :=
  (win0_1.blk (0 : Fin 1)).view.read (Elt F) ((s₀ m ρ).mem ((c : Thread nD τ).loc main_arg1))
def ostg (c : Dev nD) : (cc0_stg2_0 : Ref sig .tc).ty.Contents (Elt F) :=
  (win0_2.blk (0 : Fin 1)).view.read (Elt F) ((s₀ m ρ).mem ((c : Thread nD τ).loc main_arg2))

/-- The two key heads of device `c`, as they lie in the buffer of keys. -/
def kval (c : Dev nD) (j : Fin 2) : Vec F S1x2048x128 .f32 := fun y =>
  (khV c j).read (Elt F) (m ((c : Thread nD τ).loc main_arg3)) ((Shape.reshapeEquiv squeezes_S1x2048x128_S2048x128.numel_eq).symm y)
/-- The two value heads of device `c`. -/
def vval (c : Dev nD) (j : Fin 2) : Vec F S1x2048x128 .f32 := fun y =>
  (vhV c j).read (Elt F) (m ((c : Thread nD τ).loc main_arg4)) ((Shape.reshapeEquiv squeezes_S1x2048x128_S2048x128.numel_eq).symm y)

/-- The scaled queries and the output weights, rounded. -/
def qv (c : Dev nD) : FVec F S512x1024 .bf16 := k0_pay1 (xstg m ρ c) (qstg m ρ c)
def ov (c : Dev nD) : FVec F S1024x1024 .bf16 := k0_pay2 (ostg m ρ c)

/-- Rows `128 b` to `128 b + 127` of device `c`'s own part of the result: its eight heads' attention through its rows of
    the output weights. -/
def part (c : Dev nD) (b : Fin 4) : FVec F S128x1024 .f32 :=
  match b with
  | ⟨0, _⟩ => k0_pay11 (qv m ρ c) (ov m ρ c) (k0_pay4 (kval m c 1)) (k0_pay6 (vval m c 1))
      (k0_pay7 (qv m ρ c) (k0_pay3 (kval m c 0)) (vval m c 0)) (k0_pay8 (qv m ρ c) (k0_pay3 (kval m c 0)) (vval m c 0))
      (k0_pay9 (qv m ρ c) (k0_pay3 (kval m c 0)) (vval m c 0)) (k0_pay10 (qv m ρ c) (k0_pay3 (kval m c 0)) (vval m c 0))
  | ⟨1, _⟩ => k0_pay24 (ov m ρ c) (k0_pay6 (vval m c 1))
      (k0_pay15 (qv m ρ c) (k0_pay3 (kval m c 0)) (k0_pay5 (vval m c 0)))
      (k0_pay16 (qv m ρ c) (k0_pay3 (kval m c 0)) (k0_pay5 (vval m c 0)))
      (k0_pay18 (k0_pay5 (vval m c 0)) (k0_pay17 (qv m ρ c) (k0_pay3 (kval m c 0))))
      (k0_pay19 (qv m ρ c) (k0_pay3 (kval m c 0)) (k0_pay5 (vval m c 0)))
      (k0_pay20 (qv m ρ c) (k0_pay4 (kval m c 1)) (k0_pay6 (vval m c 1)))
      (k0_pay21 (qv m ρ c) (k0_pay4 (kval m c 1)) (k0_pay6 (vval m c 1)))
      (k0_pay22 (qv m ρ c) (k0_pay4 (kval m c 1)) (k0_pay6 (vval m c 1)))
      (k0_pay23 (qv m ρ c) (k0_pay4 (kval m c 1)))
  | ⟨2, _⟩ => k0_pay35 (qv m ρ c) (ov m ρ c) (k0_pay4 (kval m c 1)) (k0_pay6 (vval m c 1))
      (k0_pay30 (qv m ρ c) (k0_pay3 (kval m c 0)) (k0_pay5 (vval m c 0)))
      (k0_pay31 (qv m ρ c) (k0_pay3 (kval m c 0)) (k0_pay5 (vval m c 0)))
      (k0_pay32 (qv m ρ c) (k0_pay3 (kval m c 0)) (k0_pay5 (vval m c 0)))
      (k0_pay33 (qv m ρ c) (k0_pay3 (kval m c 0)) (k0_pay5 (vval m c 0)))
      (k0_pay34 (qv m ρ c))
  | ⟨_ + 3, _⟩ => k0_pay54 (qv m ρ c) (ov m ρ c) (k0_pay4 (kval m c 1)) (k0_pay6 (vval m c 1))
      (k0_pay46 (k0_pay44 (qv m ρ c) (k0_pay3 (kval m c 0)) (k0_pay5 (vval m c 0))) (k0_pay45 (qv m ρ c) (k0_pay3 (kval m c 0))))
      (k0_pay47 (qv m ρ c) (k0_pay3 (kval m c 0)) (k0_pay5 (vval m c 0)))
      (k0_pay48 (qv m ρ c) (k0_pay3 (kval m c 0)) (k0_pay5 (vval m c 0)))
      (k0_pay49 (qv m ρ c) (k0_pay3 (kval m c 0)) (k0_pay5 (vval m c 0)))
      (k0_pay50 (qv m ρ c) (k0_pay4 (kval m c 1)) (k0_pay6 (vval m c 1)))
      (k0_pay52 (qv m ρ c) (k0_pay4 (kval m c 1)) (k0_pay6 (vval m c 1)))
      (k0_pay53 (qv m ρ c) (k0_pay4 (kval m c 1)))

/-- The part as the result's rows hold it first. -/
def po (c : Dev nD) (b : Fin 4) : Vec F S1x128x1024 .f32 := shapeCast S1x128x1024 (part m ρ c b) shapeCasts_S128x1024_S1x128x1024

/-- What device `c` sends of block `b`: in stage 0 its own part rounded, in stage 1 the rounded sum with its first partner's. -/
def sent (st : Fin 2) (c : Dev nD) (b : Fin 4) : Vec F S1x1x128x1024 .bf16 :=
  match st with
  | ⟨0, _⟩ => k0_pay14 (truncf .bf16 (part m ρ c b) bitsLt_bf16_f32)
  | ⟨_ + 1, _⟩ => k0_pay29 (po m ρ c b) (k0_pay14 (truncf .bf16 (part m ρ (peer0 c) b) bitsLt_bf16_f32))

/-- The rows after the first addition, and after the second. -/
def acc (c : Dev nD) (b : Fin 4) : Vec F S1x128x1024 .f32 := k0_pay28 (po m ρ c b) (sent m ρ 0 (peer 0 c) b)
def fin (c : Dev nD) (b : Fin 4) : Vec F S1x128x1024 .f32 := k0_pay65 (acc m ρ c b) (sent m ρ 1 (peer 1 c) b)

/-! ## The cells -/

/-- The runtime's barrier semaphore (not the kernel's own). -/
abbrev barS : Sem sig := (SemArray.scalar (sig.barrier 0 rfl) : Sems sig S_).sem

/-- The kernel's own semaphores: the four of the loads, the eight of the sends, the eight of the landings. -/
abbrev osem : Fin 20 → SemLoc sig := fun i => .dma ⟨4 + i.val, by have := i.isLt; show 4 + i.val < 24; omega⟩

/-- All twenty-one: `none` is the barrier's. -/
abbrev csem : Option (Fin 20) → SemLoc sig := fun | none => .reg barS | some i => osem i
abbrev kcell (ck : Dev nD × Option (Fin 20)) : GSem nD τ sig := ((ck.1 : Thread nD τ), csem ck.2)

abbrev ldK (i : Fin 4) : Fin 20 := ⟨i.val, by omega⟩
abbrev sndK (st : Fin 2) (b : Fin 4) : Fin 20 := ⟨4 + 4 * st.val + b.val, by omega⟩
abbrev rcvK (st : Fin 2) (b : Fin 4) : Fin 20 := ⟨12 + 4 * st.val + b.val, by omega⟩

/-- What kind of cell a number names. -/
inductive Kind
  | ld (i : Fin 4)
  | snd (st : Fin 2) (b : Fin 4)
  | rcv (st : Fin 2) (b : Fin 4)
deriving DecidableEq

def kind (i : Fin 20) : Kind :=
  if h : i.val < 4 then .ld ⟨i.val, h⟩
  else if h : i.val < 12 then .snd ⟨(i.val - 4) / 4, by omega⟩ ⟨(i.val - 4) % 4, by omega⟩
  else .rcv ⟨(i.val - 12) / 4, by omega⟩ ⟨(i.val - 12) % 4, by omega⟩

/-- The role of a load's counter. -/
theorem kind_ld (i : Fin 4) : kind (ldK i) = .ld i := by revert i; decide
/-- The role of a send counter. -/
theorem kind_snd (st : Fin 2) (b : Fin 4) : kind (sndK st b) = .snd st b := by revert st b; decide
/-- The role of a receive counter. -/
theorem kind_rcv (st : Fin 2) (b : Fin 4) : kind (rcvK st b) = .rcv st b := by revert st b; decide

/-- The cell a semaphore is, if one of the twenty-one. -/
def kof : SemLoc sig → Option (Option (Fin 20))
  | .reg s => if s = barS then some none else none
  | .dma s => if h : 4 ≤ s.val ∧ s.val < 24 then some (some ⟨s.val - 4, by omega⟩) else none

/-- A counter's place among the named counters is read back from the counter. -/
theorem kof_csem (k : Option (Fin 20)) : kof (csem k) = some k := by
  cases k with
  | none => show (if barS = barS then some none else none) = _; rw [if_pos rfl]
  | some i =>
    have := i.isLt
    show (if h : 4 ≤ 4 + i.val ∧ 4 + i.val < 24 then some (some (⟨4 + i.val - 4, _⟩ : Fin 20)) else none) = _
    rw [dif_pos ⟨by omega, by omega⟩]
    exact congrArg (fun x => some (some x)) (Fin.ext (by simp))

/-- Different places name different counters. -/
theorem csem_injective : Function.Injective csem := fun a b h => by
  have := congrArg kof h
  rw [kof_csem, kof_csem] at this
  exact Option.some.inj this

/-- What a slot's transfer credits, and what a head's. -/
abbrev N : ℕ := (rV 0 0).dmaCredit
abbrev NL : ℕ := (kV 0).dmaCredit
/-- A block's copy credits a positive amount. -/
theorem N_pos : 0 < N := View.dmaCredit_pos _ (by decide)
/-- A load credits a positive amount. -/
theorem NL_pos : 0 < NL := View.dmaCredit_pos _ (by decide)

def amt : Option (Fin 20) → ℕ
  | none => 1
  | some i => match kind i with
    | .ld _ => NL
    | _ => N
/-- Every duty's amount is positive. -/
theorem amt_pos (k : Option (Fin 20)) : 0 < amt k := by
  unfold amt; split
  · exact Nat.one_pos
  · split <;> first | exact NL_pos | exact N_pos

/-- What the load cell `i` of device `c` hands over: the buffer's half with the head in it. -/
def ldPay (c : Dev nD) (i : Fin 4) : sProp 𝕄 :=
  match i with
  | ⟨0, _⟩ => holds (kV 0) c fullShare (kval m c 0)
  | ⟨1, _⟩ => holds (vV 0) c fullShare (vval m c 0)
  | ⟨2, _⟩ => holds (kV 1) c fullShare (kval m c 1)
  | ⟨_ + 3, _⟩ => holds (vV 1) c fullShare (vval m c 1)

/-- What the payment `d` on cell `k` of device `c` hands over. The barrier: partner `d`'s landing slots of stage `d`. A send
    cell: its send slot back. A landing cell: its slot, with what the partner sent. -/
def pay (c : Dev nD) (k : Option (Fin 20)) (d : Fin 2) : sProp 𝕄 :=
  match k with
  | none => bigSep Finset.univ fun b : Fin 4 => holdsAny (rV d b) (peer d c)
  | some i => match kind i with
    | .ld i => ldPay m c i
    | .snd st b => holdsAny (sV st b) c
    | .rcv st b => holds (rV st b) c fullShare (sent m ρ st (peer st c) b)

instance pay_storable (c : Dev nD) (k : Option (Fin 20)) (d : Fin 2) : BI.Storable (upEmb : UEmb _ 𝕄) (pay (F := F) m ρ c k d) := by
  unfold pay ldPay
  (repeat' split) <;> infer_instance

def dut : Option (Fin 20) → Finset (Fin 2)
  | none => Finset.univ
  | some _ => {0}

/-- One round: the barrier's two payments of one unit each, every other cell's one payment of its transfer's credit. -/
def rd : Rounds.Schedule (GSem nD τ sig) (Fin 2) 𝕄 where
  duties g r := if r = 0 ∧ g.1.2 = .tc then (match kof g.2 with | some k => dut k | none => ∅) else ∅
  unitless _ := False
  amount g _ _ := match kof g.2 with | some k => amt k | none => 1
  payload g _ d := match kof g.2 with | some k => pay m ρ g.1.1 k d | none => iprop(emp)
  amount_pos g _ _ _ := by
    split
    · exact amt_pos _
    · exact Nat.one_pos

instance rd_payload_storable (g : GSem nD τ sig) (r : ℕ) (d : Fin 2) :
    BI.Storable (upEmb : UEmb _ 𝕄) ((rd (F := F) m ρ).payload g r d) := by
  dsimp only [rd]
  split <;> infer_instance

/-- The duties of a counter's only round. -/
theorem duties_cell (c : Dev nD) (k) : (rd (F := F) m ρ).duties (kcell (c, k)) 0 = dut k := by
  dsimp only [rd]; rw [if_pos ⟨rfl, rfl⟩, kof_csem]
/-- No counter has a later round. -/
theorem duties_later (g : GSem nD τ sig) : ∀ r, 1 ≤ r → (rd (F := F) m ρ).duties g r = ∅ := fun r hr => by
  dsimp only [rd]; rw [if_neg fun h => by omega]
/-- What one duty of a counter brings. -/
theorem amount_cell (c : Dev nD) (k) (d : Fin 2) : (rd (F := F) m ρ).amount (kcell (c, k)) 0 d = amt k := by
  dsimp only [rd]; rw [kof_csem]
/-- What one duty of a counter hands over. -/
theorem payload_cell (c : Dev nD) (k) (d : Fin 2) : (rd (F := F) m ρ).payload (kcell (c, k)) 0 d = pay m ρ c k d := by
  dsimp only [rd]; rw [kof_csem]

/-- A cell's round in all: two units at the barrier, the transfer's credit elsewhere. -/
def tot (k : Option (Fin 20)) : ℕ := (dut k).card * amt k
/-- What a counter's only round brings in all. -/
theorem expect_cell (c : Dev nD) (k) : (rd (F := F) m ρ).expect (kcell (c, k)) 0 = tot k := by
  unfold Schedule.expect Schedule.amountOf tot
  rw [duties_cell, Finset.sum_congr rfl fun d _ => amount_cell m ρ c k d, Finset.sum_const, smul_eq_mul]

/-- What waiting for a cell's whole round brings. -/
theorem rest_cell (c : Dev nD) (k) :
    bigSep ((rd (F := F) m ρ).duties (kcell (c, k)) 0 \ ∅) (fun d => (rd (F := F) m ρ).payload (kcell (c, k)) 0 d)
      = bigSep (dut k) fun d => pay m ρ c k d := by
  rw [Finset.sdiff_empty, duties_cell]
  exact bigSep_congr fun d _ => payload_cell m ρ c k d

/-! ## What a device owes; the levels -/

/-- The order in which a device sends. -/
def order : List (Fin 2 × Fin 4) := [(0, 0), (0, 1), (1, 0), (0, 2), (1, 1), (0, 3), (1, 2), (1, 3)]

abbrev sndCell (c : Dev nD) (st : Fin 2) (b : Fin 4) : GSem nD τ sig := kcell (c, some (sndK st b))
abbrev rcvCell (c : Dev nD) (st : Fin 2) (b : Fin 4) : GSem nD τ sig := kcell (c, some (rcvK st b))
abbrev barCell (c : Dev nD) : GSem nD τ sig := kcell (c, none)

/-- What a device still owes when the transfers of the list are still to come. -/
def ow (c : Dev nD) : List (Fin 2 × Fin 4) → CellTallies nD τ sig Unit
  | [] => 0
  | p :: l => ow c l + tallyAt (rcvCell (peer p.1 c) p.1 p.2) () N

def O₁ (c : Dev nD) : CellTallies nD τ sig Unit := ow c order + tallyAt (barCell (peer 1 c)) () 1
def O₀ (c : Dev nD) : CellTallies nD τ sig Unit := O₁ c + tallyAt (barCell (peer 0 c)) () 1

def L (g : GSem nD τ sig) : Finset Unit := if g.1.2 = .tc then {()} else ∅

/-- The barrier at 1, the landings of stage 0 at 2 to 5, of stage 1 at 6 to 9, everything else at 0. -/
def lvK : Option (Option (Fin 20)) → ℕ
  | none => 0
  | some none => 1
  | some (some i) => i.val - 10
def lv (g : GSem nD τ sig) (_ : Unit) : ℕ := lvK (kof g.2)

/-- Levels are counted on the TensorCore threads only. -/
theorem L_of_ne (g : GSem nD τ sig) (h : g.1.2 ≠ .tc) : L g = ∅ := if_neg h
/-- A TensorCore's counter has its one level. -/
theorem L_tc (c : Dev nD) (sm : SemLoc sig) : L ((c : Thread nD τ), sm) = {()} := if_pos rfl

/-- The level of a counter. -/
theorem lv_cell (c : Dev nD) (k) (u) : lv (kcell (c, k)) u = lvK (some k) := by
  show lvK (kof (csem k)) = _; rw [kof_csem]

/-- A counter that a device still owes is a receive counter of a neighbour, in an exchange still to come. -/
theorem ow_pos {c : Dev nD} {l} {g : GSem nD τ sig} {u : Unit} (h : 0 < ow c l g u) :
    ∃ p ∈ l, g = rcvCell (peer p.1 c) p.1 p.2 := by
  induction l with
  | nil => exact absurd h (Nat.lt_irrefl 0)
  | cons p l ih =>
    rw [ow, Pi.add_apply, Finsupp.add_apply, tallyAt_apply] at h
    by_cases hp : g = rcvCell (peer p.1 c) p.1 p.2 ∧ u = ()
    · exact ⟨p, List.mem_cons_self, hp.1⟩
    · rw [if_neg hp, add_zero] at h
      obtain ⟨p', hp', e⟩ := ih h
      exact ⟨p', List.mem_cons_of_mem _ hp', e⟩

/-- A counter that a device owes at the start is one of the protocol's, above the loads. -/
theorem O₀_pos {c : Dev nD} {g : GSem nD τ sig} {u : Unit} (h : 0 < O₀ c g u) :
    ∃ d : Dev nD, ∃ k, g = kcell (d, k) ∧ 0 < lvK (some k) := by
  unfold O₀ O₁ at h
  rw [Pi.add_apply, Finsupp.add_apply, Pi.add_apply, Finsupp.add_apply, tallyAt_apply, tallyAt_apply] at h
  by_cases h0 : g = barCell (peer 0 c) ∧ u = ()
  · exact ⟨_, _, h0.1, Nat.one_pos⟩
  by_cases h1 : g = barCell (peer 1 c) ∧ u = ()
  · exact ⟨_, _, h1.1, Nat.one_pos⟩
  rw [if_neg h0, if_neg h1, add_zero, add_zero] at h
  obtain ⟨p, -, e⟩ := ow_pos h
  exact ⟨_, _, e, by show 0 < (12 + 4 * p.1.val + p.2.val) - 10; omega⟩

/-- A wait on a cell below every landing still owed. -/
theorem mayWait_cell (c : Dev nD) (k) (l : List (Fin 2 × Fin 4)) (h : ∀ p ∈ l, lvK (some k) < lvK (some (some (rcvK p.1 p.2)))) :
    (levAts L lv : sProp 𝕄) ⊢ MayWait (c : Thread nD τ) (csem k) () (ow c l) := by
  refine MayOwe.of_cut (L := L) (lev := lv) (lvK (some k)) (fun p hp => by rw [Finset.mem_singleton.mp hp, L_tc]; exact Finset.mem_singleton_self _)
    (fun g u hg => ?_) (fun p hp => ?_) (fun g u hg => ?_)
  · obtain ⟨p, -, e⟩ := ow_pos hg
    rw [e, L_tc]; exact Finset.mem_singleton_self _
  · rw [Finset.mem_singleton.mp hp]; exact le_of_eq (lv_cell c k _)
  · obtain ⟨p, hp, e⟩ := ow_pos hg
    rw [e, lv_cell]; exact h p hp

/-- The pipeline's own waits are below everything owed. -/
theorem mayWait_stage (c : Dev nD) (q : DmaSem sig) (hq : kof (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · obtain ⟨d, k, e, -⟩ := O₀_pos hg
      rw [e, L_tc]; exact Finset.mem_singleton_self _
    · rw [Finset.mem_singleton.mp hp]; show lvK (kof (.dma q)) ≤ 0; rw [hq]; exact le_refl 0
    · obtain ⟨d, k, e, hk⟩ := O₀_pos hg
      rw [e, lv_cell]; exact hk
  · rw [MayWait_zero]; iintro -; iempintro

end Cert.KernelIdeal.Attn
-- ==== Proof.Steps.lean ====
/-
One rule per kind of effect of the kernel's body, over the slots and the cells of `Proto`: a load, a store, the copy of a
head, a signal, a transfer to a partner, and a wait for a cell's whole round with the cell closed after it.
-/
module

public import proofs.«01_k».proof.Proof.Proto

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Option (Fin 20) → ℕ)

/-- Every cell's invariant, and that its round 0 is reached. -/
def records : sProp 𝕄 :=
  bigSep Finset.univ fun ck : Dev nD × Option (Fin 20) =>
    iprop(cellInv ER (rd m ρ) (K ck) (kcell ck) ∗ reached ER (kcell ck) 0)

instance records_persistent : BI.Persistent (records m ρ K) := by unfold records; infer_instance

/-- One counter's record, out of them all. -/
theorem records_at (ck : Dev nD × Option (Fin 20)) :
    records m ρ K ⊢ iprop(cellInv ER (rd m ρ) (K ck) (kcell ck) ∗ reached ER (kcell ck) 0) :=
  bigSep_elim (Finset.mem_univ ck)

/-- What a device owes while the transfers of `l` are still to come, whatever it has waited on. -/
def owesL (c : Dev nD) (l : List (Fin 2 × Fin 4)) : sProp 𝕄 := iprop(∃ W, owes (c : Thread nD τ) (ow c l) W)

section Rules

variable {α : Type} {Q : α → sProp (MT nD τ sig Unit (Elt F) ℕ UU ℕ)} (c : Dev nD)

/-- A load of a slot. -/
theorem ld_at {cs : CoreSpace} {s : Shape} {e : EltTy} (M : Memref sig .tc cs s e) (r : Rect s) {hl : M.view.LoadsAt r}
    {q : PosShare TreeShare} {w : r.shape.Idx → Elt F e} {k : (r.shape.Idx → Elt F e) → Prog (TpuEff nD τ sig (Elt F) Λ₀ .tc) α} :
    holds (F := F) (M.access r) c q w
      ⊢ iprop((holds (F := F) (M.access r) c q w -∗ wp frame (wpE (defs₀ (F := F)) 𝒱₀ (c : Thread nD τ) none) Set.univ (k w) Q)
          -∗ wp frame (wpE (defs₀ (F := F)) 𝒱₀ (c : Thread nD τ) none) Set.univ (.op (.load M r hl) k) Q) := by
  unfold holds
  iintro ⟨%f, %hf, H⟩ Hk
  iapply (wp_load_rect 𝒱₀ (c : Thread nD τ) none Set.univ (m := M) (r := r) (subset_rfl)) $$ H
  iintro H
  rw [hf]
  iapply Hk
  iexists f; isplitr; · ipureintro; exact hf
  iexact H

/-- A load of a slot whatever it holds. -/
theorem ld_any {cs : CoreSpace} {s : Shape} {e : EltTy} (M : Memref sig .tc cs s e) (r : Rect s) {hl : M.view.LoadsAt r}
    {k : (r.shape.Idx → Elt F e) → Prog (TpuEff nD τ sig (Elt F) Λ₀ .tc) α} :
    holdsAny (F := F) (M.access r) c
      ⊢ iprop((∀ w, holdsAny (F := F) (M.access r) c -∗ wp frame (wpE (defs₀ (F := F)) 𝒱₀ (c : Thread nD τ) none) Set.univ (k w) Q)
          -∗ wp frame (wpE (defs₀ (F := F)) 𝒱₀ (c : Thread nD τ) none) Set.univ (.op (.load M r hl) k) Q) := by
  unfold holdsAny
  iintro ⟨%w, H⟩ Hk
  iapply (ld_at c M r (hl := hl) (w := w)) $$ H
  iintro H
  iapply Hk
  iexists w; iexact H

/-- A store over a slot. -/
theorem st_at {cs : CoreSpace} {s : Shape} {e : EltTy} (M : Memref sig .tc cs s e) (r : Rect s) {w : r.shape.Idx → Elt F e}
    (w' : r.shape.Idx → Elt F e) (hw : w = w')
    {hx : (M.access r).Stores Finset.univ} {hm : (Finset.univ : Finset r.shape.Idx) = Finset.univ ∨ ∀ a, r.stride a = 1}
    {k : PUnit → Prog (TpuEff nD τ sig (Elt F) Λ₀ .tc) α} :
    holdsAny (F := F) (M.access r) c
      ⊢ iprop((holds (F := F) (M.access r) c fullShare w' -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  subst hw
  unfold holdsAny holds
  iintro ⟨%w', %f, -, H⟩ Hk
  iapply (wp_store 𝒱₀ (c : Thread nD τ) none Set.univ (m := M) (r := r) (Mk := Finset.univ) (by rw [View.setOn_univ])) $$ H
  iintro H
  iapply Hk
  iexists _; isplitr
  rotate_left
  · iexact H
  · ipureintro; exact View.read_write_univ _ _

/-- A wait for the whole of a cell's round, then the cell closed: the payload, and the counter at zero. -/
theorem wait_at (k : Option (Fin 20)) (l : List (Fin 2 × Fin 4)) (h : ∀ p ∈ l, lvK (some k) < lvK (some (some (rcvK p.1 p.2))))
    {w : TpuEff nD τ sig (Elt F) Λ₀ .tc PUnit} {sm : SemLoc sig} {n : ℕ}
    (hw : ∀ K' : PUnit → sProp 𝕄, wpE (defs₀ (F := F)) 𝒱₀ (c : Thread nD τ) none Set.univ w K' = waitSpec (c : Thread nD τ) Set.univ sm n K')
    (hs : sm = csem k) (hn : n = tot k) {kk : PUnit → Prog (TpuEff nD τ sig (Elt F) Λ₀ .tc) α} :
    iprop(records m ρ K ∗ levAts L lv ∗ owesL c l ∗ atPos ER (kcell (c, k)) 0 ∅ 0 ∗ cred (tallyAt (kcell (c, k)) () (tot k)))
      ⊢ iprop(((owesL c l ∗ semVal (kcell (c, k)) 0 ∗ bigSep (dut k) fun d => pay m ρ c k d)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hs hn
  unfold owesL
  iintro ⟨#Hr, #Hlev, ⟨%W, HO⟩, Hat, Hc⟩ Hk
  ihave Hrk := (records_at m ρ K (c, k)) $$ Hr
  icases Hrk with ⟨#HI, -⟩
  iapply (Rounds.wp_wait_rest_token 𝒱₀ ER (rd m ρ) (c : Thread nD τ) none (κ := K (c, k)) (sm := csem k)
      hw (Set.mem_univ _) () (O := ow c l) (W := W) (R := 0) (m := 0) (T := ∅)
      (by rw [Nat.zero_add]; exact (expect_cell m ρ c k).symm)) $$ [Hc HO Hat]
  · isplitr; · iexact HI
    isplitl [Hc]; · iexact Hc
    isplitl [HO]; · iexact HO
    isplitr; · iapply (mayWait_cell c k l h); iexact Hlev
    iexact Hat
  iintro ⟨HO, Hat, -, Hpay⟩
  imod (Rounds.cell_close ER (rd m ρ) (Set.mem_univ (K (c, k))) (fun h => h) (R := 0 + 1) (duties_later m ρ (kcell (c, k)))) $$ [Hat] with Hz
  · isplitr; · iexact HI
    iexact Hat
  iapply Hk
  isplitl [HO]; · iexists _; iexact HO
  isplitl [Hz]; · iexact Hz
  iapply (Entails.of_eq (rest_cell m ρ c k)); iexact Hpay

/-- The signal to partner `d`, with this device's landing slots of stage `d`. -/
theorem signal_at (d : Fin 2) (n : Dev nD) (hn : n = peer d c) {s : Sem sig} (hs : s = barS) {k' : ℕ} (hk' : k' = 1)
    {O : CellTallies nD τ sig Unit} (O' : CellTallies nD τ sig Unit) (hO : O = O' + tallyAt (barCell (peer d c)) () 1) {W : Waits sig Unit}
    {kk : PUnit → Prog (TpuEff nD τ sig (Elt F) Λ₀ .tc) α} :
    iprop(records m ρ K ∗ owes (c : Thread nD τ) O W ∗ dutyTok ER (barCell (peer d c)) 0 d
        ∗ bigSep Finset.univ fun b : Fin 4 => holdsAny (F := F) (rV d b) c)
      ⊢ iprop((owes (c : Thread nD τ) O' W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) s k') kk) Q) := by
  subst hn hs hk'
  iintro ⟨#Hr, HO, Ht, Hp⟩ Hk
  ihave Hrk := (records_at m ρ K (peer d c, none)) $$ Hr
  icases Hrk with ⟨#HI, #HR⟩
  iapply (Rounds.wp_signal 𝒱₀ ER (rd m ρ) (c : Thread nD τ) none (dst := (peer d c : Thread nD τ)) (κ := K (peer d c, none))
      (d := d) (by rw [show (((peer d c : Dev nD) : Thread nD τ), SemLoc.reg barS) = kcell (peer d c, none) from rfl, duties_cell]; exact Finset.mem_univ _)
      (amount_cell m ρ (peer d c) none d) () O' hO) $$ [HO Ht Hp]
  · isplitr; · iexact HI
    isplitl [HO]; · iexact HO
    isplitl [Ht]; · iexact Ht
    isplitl [Hp]
    · iapply (Entails.of_eq (payload_cell m ρ (peer d c) none d).symm)
      unfold pay
      rw [peer_peer]; iexact Hp
    · iexact HR
  iintro HO
  iapply Hk; iexact HO

/-- The copy of a head into a half of a buffer: any share of the head's elements goes in (and is not asked back). -/
theorem copy_at (i : Fin 4) {sp : Space} {src : Memref sig .tc sp S2048x128 .f32} {dst : Memref sig .tc .vmem S2048x128 .f32} {sem : SemLoc sig}
    {hsrc : src.view.WordExact} {hdst : dst.view.WordExact} {hsem : DmaTarget.Typed (nD := nD) (τ := τ) (p := .tc) sp sem (.here dst)}
    (hs : sem = csem (some (ldK i))) (hN : dst.view.amount sem = NL)
    (v : View sig .tc .vmem S1x2048x128 .f32) (hv : dst.view = v.reshape S2048x128 squeezes_S1x2048x128_S2048x128.numel_eq)
    {q : PosShare TreeShare} {fs : Buf (Elt F) (src.view.loc (c : Thread nD τ))}
    (w : Vec F S1x2048x128 .f32)
    (hw : w = fun y => src.view.read (Elt F) fs ((Shape.reshapeEquiv squeezes_S1x2048x128_S2048x128.numel_eq).symm y))
    (hp : ldPay m c i = holds v c fullShare w)
    {kk : PUnit → Prog (TpuEff nD τ sig (Elt F) Λ₀ .tc) α} :
    iprop(records m ρ K ∗ (src.view.loc (c : Thread nD τ) ↦[src.view.set]{q} fs) ∗ holdsAny v c
        ∗ dutyTok ER (kcell (c, some (ldK i))) 0 0)
      ⊢ iprop((cred (tallyAt (kcell (c, some (ldK i))) () NL) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) sem hsrc hdst hsem) kk) Q) := by
  obtain ⟨dv, dh⟩ := dst
  dsimp only at hv
  subst hs hw hv
  unfold holdsAny holds
  iintro ⟨#Hr, Hsrc, ⟨%w', %f, -, Hdst⟩, Ht⟩ Hk
  ihave Hrk := (records_at m ρ K (c, some (ldK i))) $$ Hr
  icases Hrk with ⟨#HI, #HR⟩
  rw [← View.set_reshape v squeezes_S1x2048x128_S2048x128.numel_eq]
  iapply (Rounds.wp_copy_pointsTo 𝒱₀ ER (rd m ρ) (c : Thread nD τ) none (κ := K (c, some (ldK i))) (r := 0) (d := 0) (fs := fs) (fd := f) (q := q)
      (by rw [show ((c : Thread nD τ), csem (some (ldK i))) = kcell (c, some (ldK i)) from rfl, duties_cell]; exact Finset.mem_singleton_self _)
      () NL hN ((amount_cell m ρ c (some (ldK i)) 0).trans (by unfold amt; dsimp only; rw [kind_ld])) ?_) $$ [Hsrc Hdst Ht]
  · rw [show ((c : Thread nD τ), csem (some (ldK i))) = kcell (c, some (ldK i)) from rfl, payload_cell]
    unfold pay
    dsimp only
    rw [kind_ld]
    dsimp only
    rw [hp]
    unfold holds
    iintro ⟨H, -⟩
    iexists _
    isplitr
    rotate_left
    · rw [← View.set_reshape v squeezes_S1x2048x128_S2048x128.numel_eq]; iexact H
    · ipureintro
      exact read_write_reshape v _ _ _
  · isplitr; · iexact HI
    isplitl [Hsrc]; · iexact Hsrc
    isplitl [Hdst]; · iexact Hdst
    isplitl [Ht]; · iexact Ht
    iexact HR
  iintro Hc
  iapply Hk; iexact Hc

/-- The transfer of block `b` in stage `st` to the stage's partner, into the partner's landing slot. -/
theorem send_at (st : Fin 2) (b : Fin 4) (l : List (Fin 2 × Fin 4)) (n : Dev nD) (hn : n = peer st c)
    {src : Memref sig .tc .vmem S128x1024 .bf16} {dst : Memref sig .tc .vmem S128x1024 .bf16}
    (hs : src.view = (sV st b).reshape S128x1024 squeezes_S1x1x128x1024_S128x1024.numel_eq)
    (hd : dst.view = (rV st b).reshape S128x1024 squeezes_S1x1x128x1024_S128x1024.numel_eq)
    {sS sem : SemLoc sig} (hsS : sS = csem (some (sndK st b))) (hsem : sem = csem (some (rcvK st b)))
    {hsc : (show Memref sig (Dev.tc n : Thread nD τ).2.kind .vmem S128x1024 .bf16 from dst).view.ref.isScScratch = false}
    {hsrc : src.view.WordExact} {hdst : dst.view.WordExact}
    {hty : DmaTarget.Typed .vmem sem (.remote (Dev.tc n : Thread nD τ) (show Memref sig (Dev.tc n : Thread nD τ).2.kind .vmem S128x1024 .bf16 from dst) sS hsc)}
    (hN : dst.view.amount sem = N)
    {kk : PUnit → Prog (TpuEff nD τ sig (Elt F) Λ₀ .tc) α} :
    iprop(records m ρ K ∗ owesL c ((st, b) :: l) ∗ holds (sV st b) c fullShare (sent m ρ st c b) ∗ holdsAny (rV st b) (peer st c)
        ∗ dutyTok ER (sndCell c st b) 0 0 ∗ dutyTok ER (rcvCell (peer st c) st b) 0 0)
      ⊢ iprop(((owesL c l ∗ cred (tallyAt (sndCell c st b) () N)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst sS hsc) sem hsrc hdst hty) kk) Q) := by
  obtain ⟨sv, sh⟩ := src
  obtain ⟨dv, dh⟩ := dst
  dsimp only at hs hd
  subst hn hsS hsem hs hd
  unfold holdsAny holds owesL
  iintro ⟨#Hr, ⟨%W, HO⟩, ⟨%fs, %hfs, Hsrc⟩, ⟨%w', %fd, -, Hdst⟩, Ht, Ht'⟩ Hk
  ihave Hrk := (records_at m ρ K (c, some (sndK st b))) $$ Hr
  icases Hrk with ⟨#HI, #HR⟩
  ihave Hrk' := (records_at m ρ K (peer st c, some (rcvK st b))) $$ Hr
  icases Hrk' with ⟨#HI', #HR'⟩
  rw [← View.set_reshape (sV st b) squeezes_S1x1x128x1024_S128x1024.numel_eq,
    ← View.set_reshape (rV st b) squeezes_S1x1x128x1024_S128x1024.numel_eq]
  iapply (Rounds.wp_send_pointsTo 𝒱₀ ER (rd m ρ) (c : Thread nD τ) none (κ₁ := K (c, some (sndK st b))) (κ₂ := K (peer st c, some (rcvK st b)))
      (c' := (peer st c : Thread nD τ)) (r₁ := 0) (r₂ := 0) (d₁ := 0) (d₂ := 0) (fs := fs) (fd := fd)
      (by rw [show ((c : Thread nD τ), csem (some (sndK st b))) = kcell (c, some (sndK st b)) from rfl, duties_cell]; exact Finset.mem_singleton_self _)
      (by rw [show ((peer st c : Thread nD τ), csem (some (rcvK st b))) = kcell (peer st c, some (rcvK st b)) from rfl, duties_cell]; exact Finset.mem_singleton_self _)
      () () N hN ((amount_cell m ρ c (some (sndK st b)) 0).trans (by unfold amt; dsimp only; rw [kind_snd]))
      ((amount_cell m ρ (peer st c) (some (rcvK st b)) 0).trans (by unfold amt; dsimp only; rw [kind_rcv]))
      (ow c l) rfl (W := W) ?_ ?_) $$ [HO Hsrc Hdst Ht Ht']
  · rw [show ((c : Thread nD τ), csem (some (sndK st b))) = kcell (c, some (sndK st b)) from rfl, payload_cell]
    unfold pay
    dsimp only
    rw [kind_snd]
    dsimp only
    unfold holdsAny holds
    iintro H
    iexists (sent m ρ st c b), fs
    isplitr; · ipureintro; exact hfs
    rw [← View.set_reshape (sV st b) squeezes_S1x1x128x1024_S128x1024.numel_eq]; iexact H
  · rw [show ((peer st c : Thread nD τ), csem (some (rcvK st b))) = kcell (peer st c, some (rcvK st b)) from rfl, payload_cell]
    unfold pay
    dsimp only
    rw [kind_rcv]
    dsimp only
    unfold holds
    iintro H
    iexists _
    isplitr
    rotate_left
    · rw [← View.set_reshape (rV st b) squeezes_S1x1x128x1024_S128x1024.numel_eq]; iexact H
    · ipureintro
      rw [peer_peer, ← hfs]
      refine (read_write_reshape (rV st b) _ _ _).trans ?_
      funext y
      show (sV st b).read (Elt F) fs (Shape.reshapeEquiv _ ((Shape.reshapeEquiv _).symm y)) = _
      rw [Equiv.apply_symm_apply]
  · isplitr; · iexact HI
    isplitr; · iexact HI'
    isplitl [Hsrc]; · iexact Hsrc
    isplitl [Hdst]; · iexact Hdst
    isplitl [HO]; · iexact HO
    isplitl [Ht]; · iexact Ht
    isplitr; · iexact HR
    isplitl [Ht']; · iexact Ht'
    iexact HR'
  iintro ⟨Hc, HO⟩
  iapply Hk
  isplitl [HO]; · iexists _; iexact HO
  iexact Hc

end Rules

end Cert.KernelIdeal.Attn
-- ==== Proof.Body.lean ====
/-
The kernel's body, part by part: each of its printed parts run from the slots, positions and tokens it uses to what it
leaves, at the device's values of `Proto`.
-/
module

public import proofs.«01_k».proof.Proof.Steps

@[expose] public section

set_option maxRecDepth 4000

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 20) → ℕ)

/-- A program of device `c` run to `Kt`. -/
abbrev runs (c : Dev nD) {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-- A finished program has run. -/
theorem runs_ret (c : Dev nD) {α : Type} (a : α) (Kt : α → sProp (MT nD τ sig Unit (Elt F) ℕ UU ℕ)) : Kt a ⊢ runs c (.ret a) Kt := by
  unfold runs; rw [wp_ret]; exact fupd_intro

omit [FloatOps F] in
/-- A view at known contents is a view at some contents. -/
theorem any_of {sp : Space} {s : Shape} {e : EltTy} {v : View sig .tc sp s e} {c : Dev nD} {w : s.Idx → Elt F e} :
    holds v c fullShare w ⊢ (holdsAny v c : sProp 𝕄) := by
  unfold holdsAny; iintro H; iexists w; iexact H

/-- A kernel's own counter has one duty. -/
theorem tot_own (i : Fin 20) : tot (some i) = amt (some i) := by
  unfold tot dut; dsimp only; rw [Finset.card_singleton, Nat.one_mul]
/-- A receive counter's amount. -/
theorem amt_rcv (st : Fin 2) (b : Fin 4) : amt (some (rcvK st b)) = N := by unfold amt; dsimp only; rw [kind_rcv]
/-- A send counter's amount. -/
theorem amt_snd (st : Fin 2) (b : Fin 4) : amt (some (sndK st b)) = N := by unfold amt; dsimp only; rw [kind_snd]
/-- A load's amount. -/
theorem amt_ld (i : Fin 4) : amt (some (ldK i)) = NL := by unfold amt; dsimp only; rw [kind_ld]

section Waits

variable {α : Type} {Q : α → sProp (MT nD τ sig Unit (Elt F) ℕ UU ℕ)} (c : Dev nD)

/-- The credit of a slot, and of a head's half, is the same for every view of that shape. -/
theorem credit_slot {sp : Space} (v : View sig .tc sp S128x1024 .bf16) : v.dmaCredit = N := rfl
/-- The credit of a load of one head. -/
theorem credit_half {sp : Space} (v : View sig .tc sp S2048x128 .f32) : v.dmaCredit = NL := rfl

/-- The wait for the landing of block `b` in stage `st`: the slot with what the partner sent. -/
theorem wait_rcv (st : Fin 2) (b : Fin 4) (l : List (Fin 2 × Fin 4))
    (h : ∀ p ∈ l, lvK (some (some (rcvK st b))) < lvK (some (some (rcvK p.1 p.2)))) {sp sp' : Space} {src : Memref sig .tc sp' S128x1024 .bf16}
    {dst : Memref sig .tc sp S128x1024 .bf16} {hsrc : src.view.WordExact} {hdst : dst.view.WordExact} {sem : DmaSem sig}
    (hs : SemLoc.dma sem = csem (some (rcvK st b))) {kk : PUnit → Prog (TpuEff nD τ sig (Elt F) Λ₀ .tc) α} :
    iprop(records m ρ K ∗ levAts L lv ∗ owesL c l ∗ atPos ER (rcvCell c st b) 0 ∅ 0 ∗ cred (tallyAt (rcvCell c st b) () N))
      ⊢ iprop(((owesL c l ∗ semVal (rcvCell c st b) 0 ∗ holds (rV st b) c fullShare (sent m ρ st (peer st c) b)) -∗ runs c (kk ⟨⟩) Q)
          -∗ runs c (.op (.waitDma2 sem src dst hsrc hdst) kk) Q) := by
  have e : tot (some (rcvK st b)) = N := (tot_own _).trans (amt_rcv st b)
  have h0 := wait_at m ρ K (Q := Q) c (some (rcvK st b)) l h
    (wpE_waitDma2_eq (src := src) (dst := dst) (hsrc := hsrc) (hdst := hdst) 𝒱₀ (c : Thread nD τ) none Set.univ) hs
    ((credit_slot dst.view).trans e.symm) (kk := kk)
  rw [e, show dut (some (rcvK st b)) = {0} from rfl, bigSep_singleton] at h0
  unfold pay at h0
  dsimp only at h0
  rw [kind_rcv] at h0
  exact h0

/-- The wait for a send to have read its slot: the slot back. -/
theorem wait_snd (st : Fin 2) (b : Fin 4) {sp sp' : Space} {src : Memref sig .tc sp' S128x1024 .bf16}
    {dst : Memref sig .tc sp S128x1024 .bf16} {hsrc : src.view.WordExact} {hdst : dst.view.WordExact} {sem : DmaSem sig}
    (hs : SemLoc.dma sem = csem (some (sndK st b))) {kk : PUnit → Prog (TpuEff nD τ sig (Elt F) Λ₀ .tc) α} :
    iprop(records m ρ K ∗ levAts L lv ∗ owesL c [] ∗ atPos ER (sndCell c st b) 0 ∅ 0 ∗ cred (tallyAt (sndCell c st b) () N))
      ⊢ iprop(((owesL c [] ∗ semVal (sndCell c st b) 0 ∗ holdsAny (sV st b) c) -∗ runs c (kk ⟨⟩) Q)
          -∗ runs c (.op (.waitDma2 sem src dst hsrc hdst) kk) Q) := by
  have e : tot (some (sndK st b)) = N := (tot_own _).trans (amt_snd st b)
  have h0 := wait_at m ρ K (Q := Q) c (some (sndK st b)) [] (fun p hp => absurd hp List.not_mem_nil)
    (wpE_waitDma2_eq (src := src) (dst := dst) (hsrc := hsrc) (hdst := hdst) 𝒱₀ (c : Thread nD τ) none Set.univ) hs
    ((credit_slot dst.view).trans e.symm) (kk := kk)
  rw [e, show dut (some (sndK st b)) = {0} from rfl, bigSep_singleton] at h0
  unfold pay at h0
  dsimp only at h0
  rw [kind_snd] at h0
  exact h0

/-- The loads come below every exchange. -/
theorem ld_first : ∀ i : Fin 4, ∀ p ∈ order, lvK (some (some (ldK i))) < lvK (some (some (rcvK p.1 p.2))) := by decide

/-- The wait for a head's copy: the half with the head in it. -/
theorem wait_ld (i : Fin 4) {P : sProp (MT nD τ sig Unit (Elt F) ℕ UU ℕ)} (hP : ldPay m c i = P) {sp sp' : Space} {src : Memref sig .tc sp' S2048x128 .f32}
    {dst : Memref sig .tc sp S2048x128 .f32} {hsrc : src.view.WordExact} {hdst : dst.view.WordExact} {sem : DmaSem sig}
    (hs : SemLoc.dma sem = csem (some (ldK i))) {kk : PUnit → Prog (TpuEff nD τ sig (Elt F) Λ₀ .tc) α} :
    iprop(records m ρ K ∗ levAts L lv ∗ owesL c order ∗ atPos ER (kcell (c, some (ldK i))) 0 ∅ 0 ∗ cred (tallyAt (kcell (c, some (ldK i))) () NL))
      ⊢ iprop(((owesL c order ∗ semVal (kcell (c, some (ldK i))) 0 ∗ P) -∗ runs c (kk ⟨⟩) Q)
          -∗ runs c (.op (.waitDma2 sem src dst hsrc hdst) kk) Q) := by
  have e : tot (some (ldK i)) = NL := (tot_own _).trans (amt_ld i)
  have h0 := wait_at m ρ K (Q := Q) c (some (ldK i)) order (ld_first i)
    (wpE_waitDma2_eq (src := src) (dst := dst) (hsrc := hsrc) (hdst := hdst) 𝒱₀ (c : Thread nD τ) none Set.univ) hs
    ((credit_half dst.view).trans e.symm) (kk := kk)
  rw [e, show dut (some (ldK i)) = {0} from rfl, bigSep_singleton] at h0
  unfold pay at h0
  dsimp only at h0
  rw [kind_ld] at h0
  rw [← hP]
  exact h0

end Waits

/-- The rectangles the whole loads of the staged inputs read. -/
abbrev xR : Rect S1x512x1024 := Rect.unit (s := S1x512x1024) ![0, 0, 0] S1x512x1024.size inb_S1x512x1024_S1x512x1024_0_0_0
abbrev wR : Rect S1024x1024 := Rect.unit (s := S1024x1024) ![0, 0] S1024x1024.size inb_S1024x1024_S1024x1024_0_0

/-- The source of a head's copy: the head of the device's own keys or values, at a share. -/
abbrev kSrc (c : Dev nD) (j : Fin 2) (q : PosShare TreeShare) : sProp 𝕄 :=
  (khV c j).loc (c : Thread nD τ) ↦[(khV c j).set]{q} m ((c : Thread nD τ).loc main_arg3)
abbrev vSrc (c : Dev nD) (j : Fin 2) (q : PosShare TreeShare) : sProp 𝕄 :=
  (vhV c j).loc (c : Thread nD τ) ↦[(vhV c j).set]{q} m ((c : Thread nD τ).loc main_arg4)

/-- The wait on the barrier semaphore: both partners' landing slots. -/
theorem wait_bar (c : Dev nD) {α : Type} {Q : α → sProp (MT nD τ sig Unit (Elt F) ℕ UU ℕ)} {n : ℕ} (hn : n = 2)
    {kk : PUnit → Prog (TpuEff nD τ sig (Elt F) Λ₀ .tc) α} :
    iprop(records m ρ K ∗ levAts L lv ∗ owesL c order ∗ atPos ER (barCell c) 0 ∅ 0 ∗ cred (tallyAt (barCell c) () 2))
      ⊢ iprop(((owesL c order ∗ semVal (barCell c) 0 ∗ bigSep Finset.univ fun d : Fin 2 => bigSep Finset.univ fun b : Fin 4 => holdsAny (rV d b) (peer d c)) -∗ runs c (kk ⟨⟩) Q)
          -∗ runs c (.op (.semWait barS n) kk) Q) :=
  wait_at m ρ K (Q := Q) c none order (by decide) (wpE_semWait_eq 𝒱₀ (c : Thread nD τ) none Set.univ) rfl hn (kk := kk)

/-- The entry barrier, and the copies of the first key head and value head. -/
theorem part1 (c : Dev nD) (W : Waits sig Unit) (Kt : _ → sProp 𝕄) :
    iprop(records m ρ K ∗ levAts L lv ∗ owes (c : Thread nD τ) (O₀ c) W ∗ dutyTok ER (barCell (peer 0 c)) 0 0 ∗ dutyTok ER (barCell (peer 1 c)) 0 1 ∗ (bigSep Finset.univ fun b : Fin 4 => holdsAny (F := F) (rV 0 b) c) ∗ (bigSep Finset.univ fun b : Fin 4 => holdsAny (F := F) (rV 1 b) c) ∗ atPos ER (barCell c) 0 ∅ 0 ∗ cred (tallyAt (barCell c) () 2) ∗ kSrc m c 0 fullShare.left.left ∗ holdsAny (F := F) (kV 0) c ∗ dutyTok ER (kcell (c, some (ldK 0))) 0 0 ∗ vSrc m c 0 fullShare.left.left ∗ holdsAny (F := F) (vV 0) c ∗ dutyTok ER (kcell (c, some (ldK 1))) 0 0
        ∗ (∀ v3 : BitVec 32, ∀ v4 : BitVec 32, ∀ v24 : BitVec 32, (owesL c order ∗ semVal (barCell c) 0 ∗ (bigSep Finset.univ fun d : Fin 2 => bigSep Finset.univ fun b : Fin 4 => holdsAny (F := F) (rV d b) (peer d c)) ∗ cred (tallyAt (kcell (c, some (ldK 0))) () NL) ∗ cred (tallyAt (kcell (c, some (ldK 1))) () NL)) -∗ Kt ⟨c, v3, v4, v24⟩))
      ⊢ runs c (k0_part1_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 ) Kt := by
  unfold runs k0_part1_skel
  simp only [semSignalWord, semWaitWord, Prog.lift, Prog.bind_op, Prog.bind_ret, Prog.pure_eq_ret, wp_deviceId]
  iintro ⟨#HR, #Hlev, HO, Htb0, Htb1, Hb0, Hb1, Hab, Hcb, Hsrc0, Hh0, Htl0, Hsrc1, Hh1, Htl1, Hk⟩
  iapply (signal_at m ρ K c 0 _ (dev1_eq c) rfl rfl (O₁ c) rfl) $$ [HO Htb0 Hb0]
  · isplitr; · iexact HR
    isplitl [HO]; · iexact HO
    isplitl [Htb0]; · iexact Htb0
    iexact Hb0
  iintro HO
  iapply (signal_at m ρ K c 1 _ (dev2_eq c) rfl rfl (ow c order) rfl) $$ [HO Htb1 Hb1]
  · isplitr; · iexact HR
    isplitl [HO]; · iexact HO
    isplitl [Htb1]; · iexact Htb1
    iexact Hb1
  iintro HO
  ihave HO : owesL c order $$ [HO]
  · unfold owesL; iexists W; iexact HO
  iapply (wait_bar m ρ K c rfl) $$ [HO Hab Hcb]
  · isplitr; · iexact HR
    isplitr; · iexact Hlev
    isplitl [HO]; · iexact HO
    isplitl [Hab]; · iexact Hab
    iexact Hcb
  iintro ⟨HO, Hzb, Hland⟩
  iapply (copy_at m ρ K c 0 rfl rfl (kV 0) rfl (kval m c 0) rfl rfl) $$ [Hsrc0 Hh0 Htl0]
  · isplitr; · iexact HR
    isplitl [Hsrc0]; · iexact Hsrc0
    isplitl [Hh0]; · iexact Hh0
    iexact Htl0
  iintro Hcl0
  iapply (copy_at m ρ K c 1 rfl rfl (vV 0) rfl (vval m c 0) rfl rfl) $$ [Hsrc1 Hh1 Htl1]
  · isplitr; · iexact HR
    isplitl [Hsrc1]; · iexact Hsrc1
    isplitl [Hh1]; · iexact Hh1
    iexact Htl1
  iintro Hcl1
  iapply runs_ret
  iapply Hk
  isplitl [HO]; · iexact HO
  isplitl [Hzb]; · iexact Hzb
  isplitl [Hland]; · iexact Hland
  isplitl [Hcl0]; · iexact Hcl0
  iexact Hcl1

/-- The copies of the second heads, and the projected queries and the output weights read. -/
theorem part2 (c : Dev nD) (v24 : BitVec 32) (Kt : _ → sProp 𝕄) :
    iprop(records m ρ K ∗ levAts L lv ∗ kSrc m c 1 fullShare.left.right ∗ holdsAny (F := F) (kV 1) c ∗ dutyTok ER (kcell (c, some (ldK 2))) 0 0 ∗ vSrc m c 1 fullShare.left.right ∗ holdsAny (F := F) (vV 1) c ∗ dutyTok ER (kcell (c, some (ldK 3))) 0 0 ∗ holds (xM.access xR) c fullShare (xstg m ρ c) ∗ holds (qM.access wR) c fullShare (qstg m ρ c) ∗ holds (oM.access wR) c fullShare (ostg m ρ c)
        ∗ ((cred (tallyAt (kcell (c, some (ldK 2))) () NL) ∗ cred (tallyAt (kcell (c, some (ldK 3))) () NL) ∗ holds (xM.access xR) c fullShare (xstg m ρ c) ∗ holds (qM.access wR) c fullShare (qstg m ρ c) ∗ holds (oM.access wR) c fullShare (ostg m ρ c)) -∗ Kt ⟨(qv m ρ c), (ov m ρ c)⟩))
      ⊢ runs c (k0_part2_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v24) Kt := by
  unfold k0_part2_skel
  simp only [semSignalWord, semWaitWord, Prog.lift, Prog.bind_op, Prog.bind_ret, Prog.pure_eq_ret]
  iintro ⟨#HR, #Hlev, Hsrc2, Hh2, Htl2, Hsrc3, Hh3, Htl3, Hx, Hq, Hw, Hk⟩
  iapply (copy_at m ρ K c 2 rfl rfl (kV 1) rfl (kval m c 1) rfl rfl) $$ [Hsrc2 Hh2 Htl2]
  · isplitr; · iexact HR
    isplitl [Hsrc2]; · iexact Hsrc2
    isplitl [Hh2]; · iexact Hh2
    iexact Htl2
  iintro Hcl2
  iapply (copy_at m ρ K c 3 rfl rfl (vV 1) rfl (vval m c 1) rfl rfl) $$ [Hsrc3 Hh3 Htl3]
  · isplitr; · iexact HR
    isplitl [Hsrc3]; · iexact Hsrc3
    isplitl [Hh3]; · iexact Hh3
    iexact Htl3
  iintro Hcl3
  iapply (ld_at c xM (xR)) $$ Hx; iintro Hx
  iapply (ld_at c qM (wR)) $$ Hq; iintro Hq
  iapply (ld_at c oM (wR)) $$ Hw; iintro Hw
  iapply runs_ret
  rw [show (k0_pay1 (xstg m ρ c) (qstg m ρ c) : _) = qv m ρ c from rfl]
  rw [show (k0_pay2 (ostg m ρ c) : _) = ov m ρ c from rfl]
  iapply Hk
  isplitl [Hcl2]; · iexact Hcl2
  isplitl [Hcl3]; · iexact Hcl3
  isplitl [Hx]; · iexact Hx
  isplitl [Hq]; · iexact Hq
  iexact Hw

/-- The four heads landed, and the keys read. -/
theorem part3 (c : Dev nD) (Kt : _ → sProp 𝕄) :
    iprop(records m ρ K ∗ levAts L lv ∗ owesL c order ∗ atPos ER (kcell (c, some (ldK 0))) 0 ∅ 0 ∗ cred (tallyAt (kcell (c, some (ldK 0))) () NL) ∗ atPos ER (kcell (c, some (ldK 1))) 0 ∅ 0 ∗ cred (tallyAt (kcell (c, some (ldK 1))) () NL) ∗ atPos ER (kcell (c, some (ldK 2))) 0 ∅ 0 ∗ cred (tallyAt (kcell (c, some (ldK 2))) () NL) ∗ atPos ER (kcell (c, some (ldK 3))) 0 ∅ 0 ∗ cred (tallyAt (kcell (c, some (ldK 3))) () NL)
        ∗ ((owesL c order ∗ semVal (kcell (c, some (ldK 0))) 0 ∗ holds (kV 0) c fullShare (kval m c 0) ∗ semVal (kcell (c, some (ldK 1))) 0 ∗ holds (vV 0) c fullShare (vval m c 0) ∗ semVal (kcell (c, some (ldK 2))) 0 ∗ holds (kV 1) c fullShare (kval m c 1) ∗ semVal (kcell (c, some (ldK 3))) 0 ∗ holds (vV 1) c fullShare (vval m c 1)) -∗ Kt ⟨(k0_pay3 (kval m c 0)), (k0_pay4 (kval m c 1))⟩))
      ⊢ runs c (k0_part3_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c) Kt := by
  unfold k0_part3_skel
  simp only [semSignalWord, semWaitWord, Prog.lift, Prog.bind_op, Prog.bind_ret, Prog.pure_eq_ret]
  iintro ⟨#HR, #Hlev, HO, Hal0, Hcl0, Hal1, Hcl1, Hal2, Hcl2, Hal3, Hcl3, Hk⟩
  iapply (wait_ld m ρ K c 0 (P := holds (kV 0) c fullShare (kval m c 0)) rfl rfl) $$ [HO Hal0 Hcl0]
  · isplitr; · iexact HR
    isplitr; · iexact Hlev
    isplitl [HO]; · iexact HO
    isplitl [Hal0]; · iexact Hal0
    iexact Hcl0
  iintro ⟨HO, Hzl0, Hh0⟩
  iapply (wait_ld m ρ K c 1 (P := holds (vV 0) c fullShare (vval m c 0)) rfl rfl) $$ [HO Hal1 Hcl1]
  · isplitr; · iexact HR
    isplitr; · iexact Hlev
    isplitl [HO]; · iexact HO
    isplitl [Hal1]; · iexact Hal1
    iexact Hcl1
  iintro ⟨HO, Hzl1, Hh1⟩
  iapply (wait_ld m ρ K c 2 (P := holds (kV 1) c fullShare (kval m c 1)) rfl rfl) $$ [HO Hal2 Hcl2]
  · isplitr; · iexact HR
    isplitr; · iexact Hlev
    isplitl [HO]; · iexact HO
    isplitl [Hal2]; · iexact Hal2
    iexact Hcl2
  iintro ⟨HO, Hzl2, Hh2⟩
  iapply (wait_ld m ρ K c 3 (P := holds (vV 1) c fullShare (vval m c 1)) rfl rfl) $$ [HO Hal3 Hcl3]
  · isplitr; · iexact HR
    isplitr; · iexact Hlev
    isplitl [HO]; · iexact HO
    isplitl [Hal3]; · iexact Hal3
    iexact Hcl3
  iintro ⟨HO, Hzl3, Hh3⟩
  iapply (ld_at c kM (halfR 0)) $$ Hh0; iintro Hh0
  iapply (ld_at c kM (halfR 1)) $$ Hh2; iintro Hh2
  iapply runs_ret
  iapply Hk
  isplitl [HO]; · iexact HO
  isplitl [Hzl0]; · iexact Hzl0
  isplitl [Hh0]; · iexact Hh0
  isplitl [Hzl1]; · iexact Hzl1
  isplitl [Hh1]; · iexact Hh1
  isplitl [Hzl2]; · iexact Hzl2
  isplitl [Hh2]; · iexact Hh2
  isplitl [Hzl3]; · iexact Hzl3
  iexact Hh3

/-- The values read. -/
theorem part4 (c : Dev nD) (Kt : _ → sProp 𝕄) :
    iprop(records m ρ K ∗ levAts L lv ∗ holds (vV 0) c fullShare (vval m c 0) ∗ holds (vV 1) c fullShare (vval m c 1)
        ∗ ((holds (vV 0) c fullShare (vval m c 0) ∗ holds (vV 1) c fullShare (vval m c 1)) -∗ Kt ⟨(k0_pay5 (vval m c 0)), (k0_pay6 (vval m c 1)), (k0_pay7 (qv m ρ c) (k0_pay3 (kval m c 0)) (vval m c 0)), (k0_pay8 (qv m ρ c) (k0_pay3 (kval m c 0)) (vval m c 0)), (k0_pay9 (qv m ρ c) (k0_pay3 (kval m c 0)) (vval m c 0)), (k0_pay10 (qv m ρ c) (k0_pay3 (kval m c 0)) (vval m c 0))⟩))
      ⊢ runs c (k0_part4_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 (qv m ρ c) (k0_pay3 (kval m c 0))) Kt := by
  unfold k0_part4_skel
  simp only [semSignalWord, semWaitWord, Prog.lift, Prog.bind_op, Prog.bind_ret, Prog.pure_eq_ret]
  iintro ⟨#HR, #Hlev, Hh1, Hh3, Hk⟩
  iapply (ld_at c vM (halfR 0)) $$ Hh1; iintro Hh1
  iapply (ld_at c vM (halfR 1)) $$ Hh3; iintro Hh3
  iapply runs_ret
  iapply Hk
  isplitl [Hh1]; · iexact Hh1
  iexact Hh3

/-- The first rows of the device's own part. -/
theorem part5 (c : Dev nD) (Kt : _ → sProp 𝕄) :
    iprop(records m ρ K ∗ levAts L lv ∗ holdsAny (F := F) (outV 0) c
        ∗ ((holds (outV 0) c fullShare (po m ρ c 0)) -∗ Kt (truncf .bf16 (part m ρ c 0) bitsLt_bf16_f32)))
      ⊢ runs c (k0_part5_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 (qv m ρ c) (ov m ρ c) (k0_pay4 (kval m c 1)) (k0_pay6 (vval m c 1)) (k0_pay7 (qv m ρ c) (k0_pay3 (kval m c 0)) (vval m c 0)) (k0_pay8 (qv m ρ c) (k0_pay3 (kval m c 0)) (vval m c 0)) (k0_pay9 (qv m ρ c) (k0_pay3 (kval m c 0)) (vval m c 0)) (k0_pay10 (qv m ρ c) (k0_pay3 (kval m c 0)) (vval m c 0))) Kt := by
  unfold k0_part5_skel
  simp only [semSignalWord, semWaitWord, Prog.lift, Prog.bind_op, Prog.bind_ret, Prog.pure_eq_ret]
  iintro ⟨#HR, #Hlev, Ho0, Hk⟩
  iapply (ld_any c outM (rowR 0)) $$ Ho0; iintro %_ Ho0
  iapply (st_at c outM (rowR 0) (po m ρ c 0) rfl) $$ Ho0; iintro Ho0
  iapply runs_ret
  rw [show (k0_pay13 (qv m ρ c) (ov m ρ c) (k0_pay4 (kval m c 1)) (k0_pay6 (vval m c 1)) (k0_pay7 (qv m ρ c) (k0_pay3 (kval m c 0)) (vval m c 0)) (k0_pay8 (qv m ρ c) (k0_pay3 (kval m c 0)) (vval m c 0)) (k0_pay9 (qv m ρ c) (k0_pay3 (kval m c 0)) (vval m c 0)) (k0_pay10 (qv m ρ c) (k0_pay3 (kval m c 0)) (vval m c 0)) : _) = (truncf .bf16 (part m ρ c 0) bitsLt_bf16_f32) from rfl]
  iapply Hk
  iexact Ho0

/-- The first transfer of stage 0. -/
theorem part6 (c : Dev nD) (v3 : BitVec 32) (Kt : _ → sProp 𝕄) :
    iprop(records m ρ K ∗ levAts L lv ∗ owesL c [(0, 0), (0, 1), (1, 0), (0, 2), (1, 1), (0, 3), (1, 2), (1, 3)] ∗ holdsAny (F := F) (sV 0 0) c ∗ holdsAny (F := F) (rV 0 0) (peer 0 c) ∗ dutyTok ER (sndCell c 0 0) 0 0 ∗ dutyTok ER (rcvCell (peer 0 c) 0 0) 0 0
        ∗ ((owesL c [(0, 1), (1, 0), (0, 2), (1, 1), (0, 3), (1, 2), (1, 3)] ∗ cred (tallyAt (sndCell c 0 0) () N)) -∗ Kt ⟨k0_pay15 (qv m ρ c) (k0_pay3 (kval m c 0)) (k0_pay5 (vval m c 0)), k0_pay16 (qv m ρ c) (k0_pay3 (kval m c 0)) (k0_pay5 (vval m c 0)), k0_pay17 (qv m ρ c) (k0_pay3 (kval m c 0))⟩))
      ⊢ runs c (k0_part6_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v3 (qv m ρ c) (k0_pay3 (kval m c 0)) (k0_pay5 (vval m c 0)) (truncf .bf16 (part m ρ c 0) bitsLt_bf16_f32)) Kt := by
  unfold k0_part6_skel
  simp only [semSignalWord, semWaitWord, Prog.lift, Prog.bind_op, Prog.bind_ret, Prog.pure_eq_ret]
  iintro ⟨#HR, #Hlev, HO, Hs00, Hd00, Hts00, Htr00, Hk⟩
  iapply (ld_any c sM (slotR 0 0)) $$ Hs00; iintro %_ Hs00
  iapply (st_at c sM (slotR 0 0) (sent m ρ 0 c 0) rfl) $$ Hs00; iintro Hs00
  iapply (send_at m ρ K c 0 0 [(0, 1), (1, 0), (0, 2), (1, 1), (0, 3), (1, 2), (1, 3)] _ (dev3_eq c) rfl rfl rfl rfl rfl) $$ [HO Hs00 Hd00 Hts00 Htr00]
  · isplitr; · iexact HR
    isplitl [HO]; · iexact HO
    isplitl [Hs00]; · iexact Hs00
    isplitl [Hd00]; · iexact Hd00
    isplitl [Hts00]; · iexact Hts00
    iexact Htr00
  iintro ⟨HO, Hcs00⟩
  iapply runs_ret
  iapply Hk
  isplitl [HO]; · iexact HO
  iexact Hcs00

/-- The second block's other heads. -/
theorem part7 (c : Dev nD) (Kt : _ → sProp 𝕄) :
    iprop(records m ρ K ∗ levAts L lv ∗ emp
        ∗ ((emp) -∗ Kt ⟨(k0_pay18 (k0_pay5 (vval m c 0)) (k0_pay17 (qv m ρ c) (k0_pay3 (kval m c 0)))), (k0_pay19 (qv m ρ c) (k0_pay3 (kval m c 0)) (k0_pay5 (vval m c 0))), (k0_pay20 (qv m ρ c) (k0_pay4 (kval m c 1)) (k0_pay6 (vval m c 1))), (k0_pay21 (qv m ρ c) (k0_pay4 (kval m c 1)) (k0_pay6 (vval m c 1))), (k0_pay22 (qv m ρ c) (k0_pay4 (kval m c 1)) (k0_pay6 (vval m c 1))), (k0_pay23 (qv m ρ c) (k0_pay4 (kval m c 1)))⟩))
      ⊢ runs c (k0_part7_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 (qv m ρ c) (k0_pay3 (kval m c 0)) (k0_pay4 (kval m c 1)) (k0_pay5 (vval m c 0)) (k0_pay6 (vval m c 1)) (k0_pay17 (qv m ρ c) (k0_pay3 (kval m c 0)))) Kt := by
  unfold k0_part7_skel
  simp only [semSignalWord, semWaitWord, Prog.lift, Prog.bind_op, Prog.bind_ret, Prog.pure_eq_ret]
  iintro ⟨#HR, #Hlev, HO, Hk⟩
  iapply runs_ret
  iapply Hk
  iexact HO

/-- The second block stored and sent. -/
theorem part8 (c : Dev nD) (v3 : BitVec 32) (Kt : _ → sProp 𝕄) :
    iprop(records m ρ K ∗ levAts L lv ∗ owesL c [(0, 1), (1, 0), (0, 2), (1, 1), (0, 3), (1, 2), (1, 3)] ∗ holdsAny (F := F) (outV 1) c ∗ holdsAny (F := F) (sV 0 1) c ∗ holdsAny (F := F) (rV 0 1) (peer 0 c) ∗ dutyTok ER (sndCell c 0 1) 0 0 ∗ dutyTok ER (rcvCell (peer 0 c) 0 1) 0 0
        ∗ ((owesL c [(1, 0), (0, 2), (1, 1), (0, 3), (1, 2), (1, 3)] ∗ holds (outV 1) c fullShare (po m ρ c 1) ∗ cred (tallyAt (sndCell c 0 1) () N)) -∗ Kt ⟨⟩))
      ⊢ runs c (k0_part8_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v3 (ov m ρ c) (k0_pay6 (vval m c 1)) (k0_pay15 (qv m ρ c) (k0_pay3 (kval m c 0)) (k0_pay5 (vval m c 0))) (k0_pay16 (qv m ρ c) (k0_pay3 (kval m c 0)) (k0_pay5 (vval m c 0))) (k0_pay18 (k0_pay5 (vval m c 0)) (k0_pay17 (qv m ρ c) (k0_pay3 (kval m c 0)))) (k0_pay19 (qv m ρ c) (k0_pay3 (kval m c 0)) (k0_pay5 (vval m c 0))) (k0_pay20 (qv m ρ c) (k0_pay4 (kval m c 1)) (k0_pay6 (vval m c 1))) (k0_pay21 (qv m ρ c) (k0_pay4 (kval m c 1)) (k0_pay6 (vval m c 1))) (k0_pay22 (qv m ρ c) (k0_pay4 (kval m c 1)) (k0_pay6 (vval m c 1))) (k0_pay23 (qv m ρ c) (k0_pay4 (kval m c 1)))) Kt := by
  unfold k0_part8_skel
  simp only [semSignalWord, semWaitWord, Prog.lift, Prog.bind_op, Prog.bind_ret, Prog.pure_eq_ret]
  iintro ⟨#HR, #Hlev, HO, Ho1, Hs01, Hd01, Hts01, Htr01, Hk⟩
  iapply (ld_any c outM (rowR 1)) $$ Ho1; iintro %_ Ho1
  iapply (st_at c outM (rowR 1) (po m ρ c 1) rfl) $$ Ho1; iintro Ho1
  iapply (ld_any c sM (slotR 0 1)) $$ Hs01; iintro %_ Hs01
  iapply (st_at c sM (slotR 0 1) (sent m ρ 0 c 1) rfl) $$ Hs01; iintro Hs01
  iapply (send_at m ρ K c 0 1 [(1, 0), (0, 2), (1, 1), (0, 3), (1, 2), (1, 3)] _ (dev4_eq c) rfl rfl rfl rfl rfl) $$ [HO Hs01 Hd01 Hts01 Htr01]
  · isplitr; · iexact HR
    isplitl [HO]; · iexact HO
    isplitl [Hs01]; · iexact Hs01
    isplitl [Hd01]; · iexact Hd01
    isplitl [Hts01]; · iexact Hts01
    iexact Htr01
  iintro ⟨HO, Hcs01⟩
  iapply runs_ret
  iapply Hk
  isplitl [HO]; · iexact HO
  isplitl [Ho1]; · iexact Ho1
  iexact Hcs01

/-- The first landing of stage 0 added. -/
theorem part9 (c : Dev nD) (v3 v4 : BitVec 32) (Kt : _ → sProp 𝕄) :
    iprop(records m ρ K ∗ levAts L lv ∗ owesL c [(1, 0), (0, 2), (1, 1), (0, 3), (1, 2), (1, 3)] ∗ atPos ER (rcvCell c 0 0) 0 ∅ 0 ∗ cred (tallyAt (rcvCell c 0 0) () N) ∗ holds (outV 0) c fullShare (po m ρ c 0) ∗ holdsAny (F := F) (sV 1 0) c
        ∗ ((owesL c [(1, 0), (0, 2), (1, 1), (0, 3), (1, 2), (1, 3)] ∗ semVal (rcvCell c 0 0) 0 ∗ holds (rV 0 0) c fullShare (sent m ρ 0 (peer 0 c) 0) ∗ holds (outV 0) c fullShare (acc m ρ c 0) ∗ holds (sV 1 0) c fullShare (sent m ρ 1 c 0)) -∗ Kt ⟨⟩))
      ⊢ runs c (k0_part9_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 v3 v4) Kt := by
  unfold k0_part9_skel
  simp only [semSignalWord, semWaitWord, Prog.lift, Prog.bind_op, Prog.bind_ret, Prog.pure_eq_ret]
  iintro ⟨#HR, #Hlev, HO, Har00, Hcr00, Ho0, Hs10, Hk⟩
  iapply (wait_rcv m ρ K c 0 0 [(1, 0), (0, 2), (1, 1), (0, 3), (1, 2), (1, 3)] (by decide) rfl) $$ [HO Har00 Hcr00]
  · isplitr; · iexact HR
    isplitr; · iexact Hlev
    isplitl [HO]; · iexact HO
    isplitl [Har00]; · iexact Har00
    iexact Hcr00
  iintro ⟨HO, Hzr00, Hr00⟩
  iapply (ld_at c outM (rowR 0)) $$ Ho0; iintro Ho0
  iapply (ld_at c rM (slotR 0 0)) $$ Hr00; iintro Hr00
  iapply (ld_at c outM (rowR 0)) $$ Ho0; iintro Ho0
  ihave Ho0 := any_of $$ Ho0
  iapply (st_at c outM (rowR 0) (acc m ρ c 0) rfl) $$ Ho0; iintro Ho0
  iapply (ld_any c sM (slotR 1 0)) $$ Hs10; iintro %_ Hs10
  iapply (st_at c sM (slotR 1 0) (sent m ρ 1 c 0) rfl) $$ Hs10; iintro Hs10
  iapply runs_ret
  iapply Hk
  isplitl [HO]; · iexact HO
  isplitl [Hzr00]; · iexact Hzr00
  isplitl [Hr00]; · iexact Hr00
  isplitl [Ho0]; · iexact Ho0
  iexact Hs10

/-- The first transfer of stage 1. -/
theorem part10 (c : Dev nD) (Kt : _ → sProp 𝕄) :
    iprop(records m ρ K ∗ levAts L lv ∗ owesL c [(1, 0), (0, 2), (1, 1), (0, 3), (1, 2), (1, 3)] ∗ holds (sV 1 0) c fullShare (sent m ρ 1 c 0) ∗ holdsAny (F := F) (rV 1 0) (peer 1 c) ∗ dutyTok ER (sndCell c 1 0) 0 0 ∗ dutyTok ER (rcvCell (peer 1 c) 1 0) 0 0
        ∗ ((owesL c [(0, 2), (1, 1), (0, 3), (1, 2), (1, 3)] ∗ cred (tallyAt (sndCell c 1 0) () N)) -∗ Kt ⟨(k0_pay30 (qv m ρ c) (k0_pay3 (kval m c 0)) (k0_pay5 (vval m c 0))), (k0_pay31 (qv m ρ c) (k0_pay3 (kval m c 0)) (k0_pay5 (vval m c 0))), (k0_pay32 (qv m ρ c) (k0_pay3 (kval m c 0)) (k0_pay5 (vval m c 0))), (k0_pay33 (qv m ρ c) (k0_pay3 (kval m c 0)) (k0_pay5 (vval m c 0))), (k0_pay34 (qv m ρ c))⟩))
      ⊢ runs c (k0_part10_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c (qv m ρ c) (k0_pay3 (kval m c 0)) (k0_pay5 (vval m c 0))) Kt := by
  unfold k0_part10_skel
  simp only [semSignalWord, semWaitWord, Prog.lift, Prog.bind_op, Prog.bind_ret, Prog.pure_eq_ret]
  iintro ⟨#HR, #Hlev, HO, Hs10, Hd10, Hts10, Htr10, Hk⟩
  iapply (send_at m ρ K c 1 0 [(0, 2), (1, 1), (0, 3), (1, 2), (1, 3)] _ (dev5_eq c) rfl rfl rfl rfl rfl) $$ [HO Hs10 Hd10 Hts10 Htr10]
  · isplitr; · iexact HR
    isplitl [HO]; · iexact HO
    isplitl [Hs10]; · iexact Hs10
    isplitl [Hd10]; · iexact Hd10
    isplitl [Hts10]; · iexact Hts10
    iexact Htr10
  iintro ⟨HO, Hcs10⟩
  iapply runs_ret
  iapply Hk
  isplitl [HO]; · iexact HO
  iexact Hcs10

/-- The third block stored. -/
theorem part11 (c : Dev nD) (Kt : _ → sProp 𝕄) :
    iprop(records m ρ K ∗ levAts L lv ∗ holdsAny (F := F) (outV 2) c
        ∗ ((holds (outV 2) c fullShare (po m ρ c 2)) -∗ Kt (truncf .bf16 (part m ρ c 2) bitsLt_bf16_f32)))
      ⊢ runs c (k0_part11_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 (qv m ρ c) (ov m ρ c) (k0_pay4 (kval m c 1)) (k0_pay6 (vval m c 1)) (k0_pay30 (qv m ρ c) (k0_pay3 (kval m c 0)) (k0_pay5 (vval m c 0))) (k0_pay31 (qv m ρ c) (k0_pay3 (kval m c 0)) (k0_pay5 (vval m c 0))) (k0_pay32 (qv m ρ c) (k0_pay3 (kval m c 0)) (k0_pay5 (vval m c 0))) (k0_pay33 (qv m ρ c) (k0_pay3 (kval m c 0)) (k0_pay5 (vval m c 0))) (k0_pay34 (qv m ρ c))) Kt := by
  unfold k0_part11_skel
  simp only [semSignalWord, semWaitWord, Prog.lift, Prog.bind_op, Prog.bind_ret, Prog.pure_eq_ret]
  iintro ⟨#HR, #Hlev, Ho2, Hk⟩
  iapply (ld_any c outM (rowR 2)) $$ Ho2; iintro %_ Ho2
  iapply (st_at c outM (rowR 2) (po m ρ c 2) rfl) $$ Ho2; iintro Ho2
  iapply runs_ret
  rw [show (k0_pay37 (qv m ρ c) (ov m ρ c) (k0_pay4 (kval m c 1)) (k0_pay6 (vval m c 1)) (k0_pay30 (qv m ρ c) (k0_pay3 (kval m c 0)) (k0_pay5 (vval m c 0))) (k0_pay31 (qv m ρ c) (k0_pay3 (kval m c 0)) (k0_pay5 (vval m c 0))) (k0_pay32 (qv m ρ c) (k0_pay3 (kval m c 0)) (k0_pay5 (vval m c 0))) (k0_pay33 (qv m ρ c) (k0_pay3 (kval m c 0)) (k0_pay5 (vval m c 0))) (k0_pay34 (qv m ρ c)) : _) = (truncf .bf16 (part m ρ c 2) bitsLt_bf16_f32) from rfl]
  iapply Hk
  iexact Ho2

/-- The third block sent, the second landing of stage 0. -/
theorem part12 (c : Dev nD) (v3 : BitVec 32) (Kt : _ → sProp 𝕄) :
    iprop(records m ρ K ∗ levAts L lv ∗ owesL c [(0, 2), (1, 1), (0, 3), (1, 2), (1, 3)] ∗ holdsAny (F := F) (sV 0 2) c ∗ holdsAny (F := F) (rV 0 2) (peer 0 c) ∗ dutyTok ER (sndCell c 0 2) 0 0 ∗ dutyTok ER (rcvCell (peer 0 c) 0 2) 0 0 ∗ atPos ER (rcvCell c 0 1) 0 ∅ 0 ∗ cred (tallyAt (rcvCell c 0 1) () N) ∗ holds (outV 1) c fullShare (po m ρ c 1)
        ∗ ((owesL c [(1, 1), (0, 3), (1, 2), (1, 3)] ∗ cred (tallyAt (sndCell c 0 2) () N) ∗ semVal (rcvCell c 0 1) 0 ∗ holds (rV 0 1) c fullShare (sent m ρ 0 (peer 0 c) 1) ∗ holds (outV 1) c fullShare (po m ρ c 1)) -∗ Kt (k0_pay39 (po m ρ c 1))))
      ⊢ runs c (k0_part12_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v3 (truncf .bf16 (part m ρ c 2) bitsLt_bf16_f32)) Kt := by
  unfold k0_part12_skel
  simp only [semSignalWord, semWaitWord, Prog.lift, Prog.bind_op, Prog.bind_ret, Prog.pure_eq_ret]
  iintro ⟨#HR, #Hlev, HO, Hs02, Hd02, Hts02, Htr02, Har01, Hcr01, Ho1, Hk⟩
  iapply (ld_any c sM (slotR 0 2)) $$ Hs02; iintro %_ Hs02
  iapply (st_at c sM (slotR 0 2) (sent m ρ 0 c 2) rfl) $$ Hs02; iintro Hs02
  iapply (send_at m ρ K c 0 2 [(1, 1), (0, 3), (1, 2), (1, 3)] _ (dev6_eq c) rfl rfl rfl rfl rfl) $$ [HO Hs02 Hd02 Hts02 Htr02]
  · isplitr; · iexact HR
    isplitl [HO]; · iexact HO
    isplitl [Hs02]; · iexact Hs02
    isplitl [Hd02]; · iexact Hd02
    isplitl [Hts02]; · iexact Hts02
    iexact Htr02
  iintro ⟨HO, Hcs02⟩
  iapply (wait_rcv m ρ K c 0 1 [(1, 1), (0, 3), (1, 2), (1, 3)] (by decide) rfl) $$ [HO Har01 Hcr01]
  · isplitr; · iexact HR
    isplitr; · iexact Hlev
    isplitl [HO]; · iexact HO
    isplitl [Har01]; · iexact Har01
    iexact Hcr01
  iintro ⟨HO, Hzr01, Hr01⟩
  iapply (ld_at c outM (rowR 1)) $$ Ho1; iintro Ho1
  iapply runs_ret
  iapply Hk
  isplitl [HO]; · iexact HO
  isplitl [Hcs02]; · iexact Hcs02
  isplitl [Hzr01]; · iexact Hzr01
  isplitl [Hr01]; · iexact Hr01
  iexact Ho1

/-- The second landing added and sent on. -/
theorem part13 (c : Dev nD) (v4 : BitVec 32) (Kt : _ → sProp 𝕄) :
    iprop(records m ρ K ∗ levAts L lv ∗ owesL c [(1, 1), (0, 3), (1, 2), (1, 3)] ∗ holds (rV 0 1) c fullShare (sent m ρ 0 (peer 0 c) 1) ∗ holds (outV 1) c fullShare (po m ρ c 1) ∗ holdsAny (F := F) (sV 1 1) c ∗ holdsAny (F := F) (rV 1 1) (peer 1 c) ∗ dutyTok ER (sndCell c 1 1) 0 0 ∗ dutyTok ER (rcvCell (peer 1 c) 1 1) 0 0
        ∗ ((owesL c [(0, 3), (1, 2), (1, 3)] ∗ holds (rV 0 1) c fullShare (sent m ρ 0 (peer 0 c) 1) ∗ holds (outV 1) c fullShare (acc m ρ c 1) ∗ cred (tallyAt (sndCell c 1 1) () N)) -∗ Kt ⟨(k0_pay44 (qv m ρ c) (k0_pay3 (kval m c 0)) (k0_pay5 (vval m c 0))), (k0_pay45 (qv m ρ c) (k0_pay3 (kval m c 0)))⟩))
      ⊢ runs c (k0_part13_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v4 (qv m ρ c) (k0_pay3 (kval m c 0)) (k0_pay5 (vval m c 0)) (k0_pay39 (po m ρ c 1))) Kt := by
  unfold k0_part13_skel
  simp only [semSignalWord, semWaitWord, Prog.lift, Prog.bind_op, Prog.bind_ret, Prog.pure_eq_ret]
  iintro ⟨#HR, #Hlev, HO, Hr01, Ho1, Hs11, Hd11, Hts11, Htr11, Hk⟩
  iapply (ld_at c rM (slotR 0 1)) $$ Hr01; iintro Hr01
  iapply (ld_at c outM (rowR 1)) $$ Ho1; iintro Ho1
  ihave Ho1 := any_of $$ Ho1
  iapply (st_at c outM (rowR 1) (acc m ρ c 1) rfl) $$ Ho1; iintro Ho1
  iapply (ld_any c sM (slotR 1 1)) $$ Hs11; iintro %_ Hs11
  iapply (st_at c sM (slotR 1 1) (sent m ρ 1 c 1) rfl) $$ Hs11; iintro Hs11
  iapply (send_at m ρ K c 1 1 [(0, 3), (1, 2), (1, 3)] _ (dev7_eq c) rfl rfl rfl rfl rfl) $$ [HO Hs11 Hd11 Hts11 Htr11]
  · isplitr; · iexact HR
    isplitl [HO]; · iexact HO
    isplitl [Hs11]; · iexact Hs11
    isplitl [Hd11]; · iexact Hd11
    isplitl [Hts11]; · iexact Hts11
    iexact Htr11
  iintro ⟨HO, Hcs11⟩
  iapply runs_ret
  iapply Hk
  isplitl [HO]; · iexact HO
  isplitl [Hr01]; · iexact Hr01
  isplitl [Ho1]; · iexact Ho1
  iexact Hcs11

/-- The fourth block's heads. -/
theorem part14 (c : Dev nD) (Kt : _ → sProp 𝕄) :
    iprop(records m ρ K ∗ levAts L lv ∗ emp
        ∗ ((emp) -∗ Kt ⟨(k0_pay46 (k0_pay44 (qv m ρ c) (k0_pay3 (kval m c 0)) (k0_pay5 (vval m c 0))) (k0_pay45 (qv m ρ c) (k0_pay3 (kval m c 0)))), (k0_pay47 (qv m ρ c) (k0_pay3 (kval m c 0)) (k0_pay5 (vval m c 0))), (k0_pay48 (qv m ρ c) (k0_pay3 (kval m c 0)) (k0_pay5 (vval m c 0))), (k0_pay49 (qv m ρ c) (k0_pay3 (kval m c 0)) (k0_pay5 (vval m c 0))), (k0_pay50 (qv m ρ c) (k0_pay4 (kval m c 1)) (k0_pay6 (vval m c 1))), (k0_pay52 (qv m ρ c) (k0_pay4 (kval m c 1)) (k0_pay6 (vval m c 1))), (k0_pay53 (qv m ρ c) (k0_pay4 (kval m c 1)))⟩))
      ⊢ runs c (k0_part14_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 (qv m ρ c) (k0_pay3 (kval m c 0)) (k0_pay4 (kval m c 1)) (k0_pay5 (vval m c 0)) (k0_pay6 (vval m c 1)) (k0_pay44 (qv m ρ c) (k0_pay3 (kval m c 0)) (k0_pay5 (vval m c 0))) (k0_pay45 (qv m ρ c) (k0_pay3 (kval m c 0)))) Kt := by
  unfold k0_part14_skel
  simp only [semSignalWord, semWaitWord, Prog.lift, Prog.bind_op, Prog.bind_ret, Prog.pure_eq_ret]
  iintro ⟨#HR, #Hlev, HO, Hk⟩
  iapply runs_ret
  iapply Hk
  iexact HO

/-- The fourth block stored. -/
theorem part15 (c : Dev nD) (v3 : BitVec 32) (Kt : _ → sProp 𝕄) :
    iprop(records m ρ K ∗ levAts L lv ∗ holdsAny (F := F) (outV 3) c ∗ holdsAny (F := F) (sV 0 3) c
        ∗ ((holds (outV 3) c fullShare (po m ρ c 3) ∗ holds (sV 0 3) c fullShare (sent m ρ 0 c 3)) -∗ Kt ⟨⟩))
      ⊢ runs c (k0_part15_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 v3 (qv m ρ c) (ov m ρ c) (k0_pay4 (kval m c 1)) (k0_pay6 (vval m c 1)) (k0_pay46 (k0_pay44 (qv m ρ c) (k0_pay3 (kval m c 0)) (k0_pay5 (vval m c 0))) (k0_pay45 (qv m ρ c) (k0_pay3 (kval m c 0)))) (k0_pay47 (qv m ρ c) (k0_pay3 (kval m c 0)) (k0_pay5 (vval m c 0))) (k0_pay48 (qv m ρ c) (k0_pay3 (kval m c 0)) (k0_pay5 (vval m c 0))) (k0_pay49 (qv m ρ c) (k0_pay3 (kval m c 0)) (k0_pay5 (vval m c 0))) (k0_pay50 (qv m ρ c) (k0_pay4 (kval m c 1)) (k0_pay6 (vval m c 1))) (k0_pay52 (qv m ρ c) (k0_pay4 (kval m c 1)) (k0_pay6 (vval m c 1))) (k0_pay53 (qv m ρ c) (k0_pay4 (kval m c 1)))) Kt := by
  unfold k0_part15_skel
  simp only [semSignalWord, semWaitWord, Prog.lift, Prog.bind_op, Prog.bind_ret, Prog.pure_eq_ret]
  iintro ⟨#HR, #Hlev, Ho3, Hs03, Hk⟩
  iapply (ld_any c outM (rowR 3)) $$ Ho3; iintro %_ Ho3
  iapply (st_at c outM (rowR 3) (po m ρ c 3) rfl) $$ Ho3; iintro Ho3
  iapply (ld_any c sM (slotR 0 3)) $$ Hs03; iintro %_ Hs03
  iapply (st_at c sM (slotR 0 3) (sent m ρ 0 c 3) rfl) $$ Hs03; iintro Hs03
  iapply runs_ret
  iapply Hk
  isplitl [Ho3]; · iexact Ho3
  iexact Hs03

/-- The fourth block sent, the third landing added. -/
theorem part16 (c : Dev nD) (v3 : BitVec 32) (Kt : _ → sProp 𝕄) :
    iprop(records m ρ K ∗ levAts L lv ∗ owesL c [(0, 3), (1, 2), (1, 3)] ∗ holds (sV 0 3) c fullShare (sent m ρ 0 c 3) ∗ holdsAny (F := F) (rV 0 3) (peer 0 c) ∗ dutyTok ER (sndCell c 0 3) 0 0 ∗ dutyTok ER (rcvCell (peer 0 c) 0 3) 0 0 ∗ atPos ER (rcvCell c 0 2) 0 ∅ 0 ∗ cred (tallyAt (rcvCell c 0 2) () N) ∗ holds (outV 2) c fullShare (po m ρ c 2) ∗ holdsAny (F := F) (sV 1 2) c
        ∗ ((owesL c [(1, 2), (1, 3)] ∗ cred (tallyAt (sndCell c 0 3) () N) ∗ semVal (rcvCell c 0 2) 0 ∗ holds (rV 0 2) c fullShare (sent m ρ 0 (peer 0 c) 2) ∗ holds (outV 2) c fullShare (acc m ρ c 2) ∗ holdsAny (F := F) (sV 1 2) c) -∗ Kt (k0_pay59 (po m ρ c 2) (sent m ρ 0 (peer 0 c) 2))))
      ⊢ runs c (k0_part16_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v3) Kt := by
  unfold k0_part16_skel
  simp only [semSignalWord, semWaitWord, Prog.lift, Prog.bind_op, Prog.bind_ret, Prog.pure_eq_ret]
  iintro ⟨#HR, #Hlev, HO, Hs03, Hd03, Hts03, Htr03, Har02, Hcr02, Ho2, Hs12, Hk⟩
  iapply (send_at m ρ K c 0 3 [(1, 2), (1, 3)] _ (dev8_eq c) rfl rfl rfl rfl rfl) $$ [HO Hs03 Hd03 Hts03 Htr03]
  · isplitr; · iexact HR
    isplitl [HO]; · iexact HO
    isplitl [Hs03]; · iexact Hs03
    isplitl [Hd03]; · iexact Hd03
    isplitl [Hts03]; · iexact Hts03
    iexact Htr03
  iintro ⟨HO, Hcs03⟩
  iapply (wait_rcv m ρ K c 0 2 [(1, 2), (1, 3)] (by decide) rfl) $$ [HO Har02 Hcr02]
  · isplitr; · iexact HR
    isplitr; · iexact Hlev
    isplitl [HO]; · iexact HO
    isplitl [Har02]; · iexact Har02
    iexact Hcr02
  iintro ⟨HO, Hzr02, Hr02⟩
  iapply (ld_at c outM (rowR 2)) $$ Ho2; iintro Ho2
  iapply (ld_at c rM (slotR 0 2)) $$ Hr02; iintro Hr02
  iapply (ld_at c outM (rowR 2)) $$ Ho2; iintro Ho2
  ihave Ho2 := any_of $$ Ho2
  iapply (st_at c outM (rowR 2) (acc m ρ c 2) rfl) $$ Ho2; iintro Ho2
  iapply (ld_any c sM (slotR 1 2)) $$ Hs12; iintro %_ Hs12
  iapply runs_ret
  iapply Hk
  isplitl [HO]; · iexact HO
  isplitl [Hcs03]; · iexact Hcs03
  isplitl [Hzr02]; · iexact Hzr02
  isplitl [Hr02]; · iexact Hr02
  isplitl [Ho2]; · iexact Ho2
  iexact Hs12

/-- The third sum sent on, the fourth landing of stage 0. -/
theorem part17 (c : Dev nD) (v3 v4 : BitVec 32) (Kt : _ → sProp 𝕄) :
    iprop(records m ρ K ∗ levAts L lv ∗ owesL c [(1, 2), (1, 3)] ∗ holdsAny (F := F) (sV 1 2) c ∗ holdsAny (F := F) (rV 1 2) (peer 1 c) ∗ dutyTok ER (sndCell c 1 2) 0 0 ∗ dutyTok ER (rcvCell (peer 1 c) 1 2) 0 0 ∗ atPos ER (rcvCell c 0 3) 0 ∅ 0 ∗ cred (tallyAt (rcvCell c 0 3) () N) ∗ holds (outV 3) c fullShare (po m ρ c 3)
        ∗ ((owesL c [(1, 3)] ∗ cred (tallyAt (sndCell c 1 2) () N) ∗ semVal (rcvCell c 0 3) 0 ∗ holds (rV 0 3) c fullShare (sent m ρ 0 (peer 0 c) 3) ∗ holds (outV 3) c fullShare (po m ρ c 3)) -∗ Kt ⟨k0_pay61 (po m ρ c 3), sent m ρ 0 (peer 0 c) 3⟩))
      ⊢ runs c (k0_part17_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v3 v4 (k0_pay59 (po m ρ c 2) (sent m ρ 0 (peer 0 c) 2))) Kt := by
  unfold k0_part17_skel
  simp only [semSignalWord, semWaitWord, Prog.lift, Prog.bind_op, Prog.bind_ret, Prog.pure_eq_ret]
  iintro ⟨#HR, #Hlev, HO, Hs12, Hd12, Hts12, Htr12, Har03, Hcr03, Ho3, Hk⟩
  iapply (st_at c sM (slotR 1 2) (sent m ρ 1 c 2) rfl) $$ Hs12; iintro Hs12
  iapply (send_at m ρ K c 1 2 [(1, 3)] _ (dev9_eq c) rfl rfl rfl rfl rfl) $$ [HO Hs12 Hd12 Hts12 Htr12]
  · isplitr; · iexact HR
    isplitl [HO]; · iexact HO
    isplitl [Hs12]; · iexact Hs12
    isplitl [Hd12]; · iexact Hd12
    isplitl [Hts12]; · iexact Hts12
    iexact Htr12
  iintro ⟨HO, Hcs12⟩
  iapply (wait_rcv m ρ K c 0 3 [(1, 3)] (by decide) rfl) $$ [HO Har03 Hcr03]
  · isplitr; · iexact HR
    isplitr; · iexact Hlev
    isplitl [HO]; · iexact HO
    isplitl [Har03]; · iexact Har03
    iexact Hcr03
  iintro ⟨HO, Hzr03, Hr03⟩
  iapply (ld_at c outM (rowR 3)) $$ Ho3; iintro Ho3
  iapply (ld_at c rM (slotR 0 3)) $$ Hr03; iintro Hr03
  iapply runs_ret
  iapply Hk
  isplitl [HO]; · iexact HO
  isplitl [Hcs12]; · iexact Hcs12
  isplitl [Hzr03]; · iexact Hzr03
  isplitl [Hr03]; · iexact Hr03
  iexact Ho3

/-- The fourth sum sent on. -/
theorem part18 (c : Dev nD) (v4 : BitVec 32) (Kt : _ → sProp 𝕄) :
    iprop(records m ρ K ∗ levAts L lv ∗ owesL c [(1, 3)] ∗ holds (outV 3) c fullShare (po m ρ c 3) ∗ holdsAny (F := F) (sV 1 3) c ∗ holdsAny (F := F) (rV 1 3) (peer 1 c) ∗ dutyTok ER (sndCell c 1 3) 0 0 ∗ dutyTok ER (rcvCell (peer 1 c) 1 3) 0 0
        ∗ ((owesL c [] ∗ holds (outV 3) c fullShare (acc m ρ c 3) ∗ cred (tallyAt (sndCell c 1 3) () N)) -∗ Kt ⟨⟩))
      ⊢ runs c (k0_part18_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 c v4 (k0_pay61 (po m ρ c 3)) (sent m ρ 0 (peer 0 c) 3)) Kt := by
  unfold k0_part18_skel
  simp only [semSignalWord, semWaitWord, Prog.lift, Prog.bind_op, Prog.bind_ret, Prog.pure_eq_ret]
  iintro ⟨#HR, #Hlev, HO, Ho3, Hs13, Hd13, Hts13, Htr13, Hk⟩
  iapply (ld_at c outM (rowR 3)) $$ Ho3; iintro Ho3
  ihave Ho3 := any_of $$ Ho3
  iapply (st_at c outM (rowR 3) (acc m ρ c 3) rfl) $$ Ho3; iintro Ho3
  iapply (ld_any c sM (slotR 1 3)) $$ Hs13; iintro %_ Hs13
  iapply (st_at c sM (slotR 1 3) (sent m ρ 1 c 3) rfl) $$ Hs13; iintro Hs13
  iapply (send_at m ρ K c 1 3 [] _ (dev10_eq c) rfl rfl rfl rfl rfl) $$ [HO Hs13 Hd13 Hts13 Htr13]
  · isplitr; · iexact HR
    isplitl [HO]; · iexact HO
    isplitl [Hs13]; · iexact Hs13
    isplitl [Hd13]; · iexact Hd13
    isplitl [Hts13]; · iexact Hts13
    iexact Htr13
  iintro ⟨HO, Hcs13⟩
  iapply runs_ret
  iapply Hk
  isplitl [HO]; · iexact HO
  isplitl [Ho3]; · iexact Ho3
  iexact Hcs13

/-- The first landing of stage 1 added, the second landed. -/
theorem part19 (c : Dev nD) (v4 : BitVec 32) (Kt : _ → sProp 𝕄) :
    iprop(records m ρ K ∗ levAts L lv ∗ owesL c [] ∗ atPos ER (rcvCell c 1 0) 0 ∅ 0 ∗ cred (tallyAt (rcvCell c 1 0) () N) ∗ atPos ER (rcvCell c 1 1) 0 ∅ 0 ∗ cred (tallyAt (rcvCell c 1 1) () N) ∗ holds (outV 0) c fullShare (acc m ρ c 0) ∗ holds (outV 1) c fullShare (acc m ρ c 1)
        ∗ ((owesL c [] ∗ semVal (rcvCell c 1 0) 0 ∗ semVal (rcvCell c 1 1) 0 ∗ holds (rV 1 0) c fullShare (sent m ρ 1 (peer 1 c) 0) ∗ holds (rV 1 1) c fullShare (sent m ρ 1 (peer 1 c) 1) ∗ holds (outV 0) c fullShare (fin m ρ c 0) ∗ holds (outV 1) c fullShare (acc m ρ c 1)) -∗ Kt ⟨k0_pay66 (acc m ρ c 1), sent m ρ 1 (peer 1 c) 1⟩))
      ⊢ runs c (k0_part19_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 v4) Kt := by
  unfold k0_part19_skel
  simp only [semSignalWord, semWaitWord, Prog.lift, Prog.bind_op, Prog.bind_ret, Prog.pure_eq_ret]
  iintro ⟨#HR, #Hlev, HO, Har10, Hcr10, Har11, Hcr11, Ho0, Ho1, Hk⟩
  iapply (wait_rcv m ρ K c 1 0 [] (by decide) rfl) $$ [HO Har10 Hcr10]
  · isplitr; · iexact HR
    isplitr; · iexact Hlev
    isplitl [HO]; · iexact HO
    isplitl [Har10]; · iexact Har10
    iexact Hcr10
  iintro ⟨HO, Hzr10, Hr10⟩
  iapply (ld_at c outM (rowR 0)) $$ Ho0; iintro Ho0
  iapply (ld_at c rM (slotR 1 0)) $$ Hr10; iintro Hr10
  iapply (ld_at c outM (rowR 0)) $$ Ho0; iintro Ho0
  ihave Ho0 := any_of $$ Ho0
  iapply (st_at c outM (rowR 0) (fin m ρ c 0) rfl) $$ Ho0; iintro Ho0
  iapply (wait_rcv m ρ K c 1 1 [] (by decide) rfl) $$ [HO Har11 Hcr11]
  · isplitr; · iexact HR
    isplitr; · iexact Hlev
    isplitl [HO]; · iexact HO
    isplitl [Har11]; · iexact Har11
    iexact Hcr11
  iintro ⟨HO, Hzr11, Hr11⟩
  iapply (ld_at c outM (rowR 1)) $$ Ho1; iintro Ho1
  iapply (ld_at c rM (slotR 1 1)) $$ Hr11; iintro Hr11
  iapply runs_ret
  iapply Hk
  isplitl [HO]; · iexact HO
  isplitl [Hzr10]; · iexact Hzr10
  isplitl [Hzr11]; · iexact Hzr11
  isplitl [Hr10]; · iexact Hr10
  isplitl [Hr11]; · iexact Hr11
  isplitl [Ho0]; · iexact Ho0
  iexact Ho1

/-- The second and third added. -/
theorem part20 (c : Dev nD) (v4 : BitVec 32) (Kt : _ → sProp 𝕄) :
    iprop(records m ρ K ∗ levAts L lv ∗ owesL c [] ∗ atPos ER (rcvCell c 1 2) 0 ∅ 0 ∗ cred (tallyAt (rcvCell c 1 2) () N) ∗ holds (outV 1) c fullShare (acc m ρ c 1) ∗ holds (outV 2) c fullShare (acc m ρ c 2)
        ∗ ((owesL c [] ∗ semVal (rcvCell c 1 2) 0 ∗ holds (rV 1 2) c fullShare (sent m ρ 1 (peer 1 c) 2) ∗ holds (outV 1) c fullShare (fin m ρ c 1) ∗ holds (outV 2) c fullShare (fin m ρ c 2)) -∗ Kt ⟨⟩))
      ⊢ runs c (k0_part20_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 v4 (k0_pay66 (acc m ρ c 1)) (sent m ρ 1 (peer 1 c) 1)) Kt := by
  unfold k0_part20_skel
  simp only [semSignalWord, semWaitWord, Prog.lift, Prog.bind_op, Prog.bind_ret, Prog.pure_eq_ret]
  iintro ⟨#HR, #Hlev, HO, Har12, Hcr12, Ho1, Ho2, Hk⟩
  iapply (ld_at c outM (rowR 1)) $$ Ho1; iintro Ho1
  ihave Ho1 := any_of $$ Ho1
  iapply (st_at c outM (rowR 1) (fin m ρ c 1) rfl) $$ Ho1; iintro Ho1
  iapply (wait_rcv m ρ K c 1 2 [] (by decide) rfl) $$ [HO Har12 Hcr12]
  · isplitr; · iexact HR
    isplitr; · iexact Hlev
    isplitl [HO]; · iexact HO
    isplitl [Har12]; · iexact Har12
    iexact Hcr12
  iintro ⟨HO, Hzr12, Hr12⟩
  iapply (ld_at c outM (rowR 2)) $$ Ho2; iintro Ho2
  iapply (ld_at c rM (slotR 1 2)) $$ Hr12; iintro Hr12
  iapply (ld_at c outM (rowR 2)) $$ Ho2; iintro Ho2
  ihave Ho2 := any_of $$ Ho2
  iapply (st_at c outM (rowR 2) (fin m ρ c 2) rfl) $$ Ho2; iintro Ho2
  iapply runs_ret
  iapply Hk
  isplitl [HO]; · iexact HO
  isplitl [Hzr12]; · iexact Hzr12
  isplitl [Hr12]; · iexact Hr12
  isplitl [Ho1]; · iexact Ho1
  iexact Ho2

/-- The fourth added, the first send's slot back. -/
theorem part21 (c : Dev nD) (v4 : BitVec 32) (Kt : _ → sProp 𝕄) :
    iprop(records m ρ K ∗ levAts L lv ∗ owesL c [] ∗ atPos ER (rcvCell c 1 3) 0 ∅ 0 ∗ cred (tallyAt (rcvCell c 1 3) () N) ∗ holds (outV 3) c fullShare (acc m ρ c 3) ∗ atPos ER (sndCell c 0 0) 0 ∅ 0 ∗ cred (tallyAt (sndCell c 0 0) () N)
        ∗ ((owesL c [] ∗ semVal (rcvCell c 1 3) 0 ∗ holds (rV 1 3) c fullShare (sent m ρ 1 (peer 1 c) 3) ∗ holds (outV 3) c fullShare (fin m ρ c 3) ∗ semVal (sndCell c 0 0) 0 ∗ holdsAny (F := F) (sV 0 0) c) -∗ Kt ⟨⟩))
      ⊢ runs c (k0_part21_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 v4) Kt := by
  unfold k0_part21_skel
  simp only [semSignalWord, semWaitWord, Prog.lift, Prog.bind_op, Prog.bind_ret, Prog.pure_eq_ret]
  iintro ⟨#HR, #Hlev, HO, Har13, Hcr13, Ho3, Has00, Hcs00, Hk⟩
  iapply (wait_rcv m ρ K c 1 3 [] (by decide) rfl) $$ [HO Har13 Hcr13]
  · isplitr; · iexact HR
    isplitr; · iexact Hlev
    isplitl [HO]; · iexact HO
    isplitl [Har13]; · iexact Har13
    iexact Hcr13
  iintro ⟨HO, Hzr13, Hr13⟩
  iapply (ld_at c outM (rowR 3)) $$ Ho3; iintro Ho3
  iapply (ld_at c rM (slotR 1 3)) $$ Hr13; iintro Hr13
  iapply (ld_at c outM (rowR 3)) $$ Ho3; iintro Ho3
  ihave Ho3 := any_of $$ Ho3
  iapply (st_at c outM (rowR 3) (fin m ρ c 3) rfl) $$ Ho3; iintro Ho3
  iapply (wait_snd m ρ K c 0 0 rfl) $$ [HO Has00 Hcs00]
  · isplitr; · iexact HR
    isplitr; · iexact Hlev
    isplitl [HO]; · iexact HO
    isplitl [Has00]; · iexact Has00
    iexact Hcs00
  iintro ⟨HO, Hzs00, Hs00⟩
  iapply runs_ret
  iapply Hk
  isplitl [HO]; · iexact HO
  isplitl [Hzr13]; · iexact Hzr13
  isplitl [Hr13]; · iexact Hr13
  isplitl [Ho3]; · iexact Ho3
  isplitl [Hzs00]; · iexact Hzs00
  iexact Hs00

/-- Three more sends' slots back. -/
theorem part22 (c : Dev nD) (Kt : _ → sProp 𝕄) :
    iprop(records m ρ K ∗ levAts L lv ∗ owesL c [] ∗ atPos ER (sndCell c 1 0) 0 ∅ 0 ∗ cred (tallyAt (sndCell c 1 0) () N) ∗ atPos ER (sndCell c 0 1) 0 ∅ 0 ∗ cred (tallyAt (sndCell c 0 1) () N) ∗ atPos ER (sndCell c 1 1) 0 ∅ 0 ∗ cred (tallyAt (sndCell c 1 1) () N)
        ∗ ((owesL c [] ∗ semVal (sndCell c 1 0) 0 ∗ holdsAny (F := F) (sV 1 0) c ∗ semVal (sndCell c 0 1) 0 ∗ holdsAny (F := F) (sV 0 1) c ∗ semVal (sndCell c 1 1) 0 ∗ holdsAny (F := F) (sV 1 1) c) -∗ Kt ⟨⟩))
      ⊢ runs c (k0_part22_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 ) Kt := by
  unfold k0_part22_skel
  simp only [semSignalWord, semWaitWord, Prog.lift, Prog.bind_op, Prog.bind_ret, Prog.pure_eq_ret]
  iintro ⟨#HR, #Hlev, HO, Has10, Hcs10, Has01, Hcs01, Has11, Hcs11, Hk⟩
  iapply (wait_snd m ρ K c 1 0 rfl) $$ [HO Has10 Hcs10]
  · isplitr; · iexact HR
    isplitr; · iexact Hlev
    isplitl [HO]; · iexact HO
    isplitl [Has10]; · iexact Has10
    iexact Hcs10
  iintro ⟨HO, Hzs10, Hs10⟩
  iapply (wait_snd m ρ K c 0 1 rfl) $$ [HO Has01 Hcs01]
  · isplitr; · iexact HR
    isplitr; · iexact Hlev
    isplitl [HO]; · iexact HO
    isplitl [Has01]; · iexact Has01
    iexact Hcs01
  iintro ⟨HO, Hzs01, Hs01⟩
  iapply (wait_snd m ρ K c 1 1 rfl) $$ [HO Has11 Hcs11]
  · isplitr; · iexact HR
    isplitr; · iexact Hlev
    isplitl [HO]; · iexact HO
    isplitl [Has11]; · iexact Has11
    iexact Hcs11
  iintro ⟨HO, Hzs11, Hs11⟩
  iapply runs_ret
  iapply Hk
  isplitl [HO]; · iexact HO
  isplitl [Hzs10]; · iexact Hzs10
  isplitl [Hs10]; · iexact Hs10
  isplitl [Hzs01]; · iexact Hzs01
  isplitl [Hs01]; · iexact Hs01
  isplitl [Hzs11]; · iexact Hzs11
  iexact Hs11

/-- Three more sends' slots back. -/
theorem part23 (c : Dev nD) (Kt : _ → sProp 𝕄) :
    iprop(records m ρ K ∗ levAts L lv ∗ owesL c [] ∗ atPos ER (sndCell c 0 2) 0 ∅ 0 ∗ cred (tallyAt (sndCell c 0 2) () N) ∗ atPos ER (sndCell c 1 2) 0 ∅ 0 ∗ cred (tallyAt (sndCell c 1 2) () N) ∗ atPos ER (sndCell c 0 3) 0 ∅ 0 ∗ cred (tallyAt (sndCell c 0 3) () N)
        ∗ ((owesL c [] ∗ semVal (sndCell c 0 2) 0 ∗ holdsAny (F := F) (sV 0 2) c ∗ semVal (sndCell c 1 2) 0 ∗ holdsAny (F := F) (sV 1 2) c ∗ semVal (sndCell c 0 3) 0 ∗ holdsAny (F := F) (sV 0 3) c) -∗ Kt ⟨⟩))
      ⊢ runs c (k0_part23_skel (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6 ) Kt := by
  unfold k0_part23_skel
  simp only [semSignalWord, semWaitWord, Prog.lift, Prog.bind_op, Prog.bind_ret, Prog.pure_eq_ret]
  iintro ⟨#HR, #Hlev, HO, Has02, Hcs02, Has12, Hcs12, Has03, Hcs03, Hk⟩
  iapply (wait_snd m ρ K c 0 2 rfl) $$ [HO Has02 Hcs02]
  · isplitr; · iexact HR
    isplitr; · iexact Hlev
    isplitl [HO]; · iexact HO
    isplitl [Has02]; · iexact Has02
    iexact Hcs02
  iintro ⟨HO, Hzs02, Hs02⟩
  iapply (wait_snd m ρ K c 1 2 rfl) $$ [HO Has12 Hcs12]
  · isplitr; · iexact HR
    isplitr; · iexact Hlev
    isplitl [HO]; · iexact HO
    isplitl [Has12]; · iexact Has12
    iexact Hcs12
  iintro ⟨HO, Hzs12, Hs12⟩
  iapply (wait_snd m ρ K c 0 3 rfl) $$ [HO Has03 Hcs03]
  · isplitr; · iexact HR
    isplitr; · iexact Hlev
    isplitl [HO]; · iexact HO
    isplitl [Has03]; · iexact Has03
    iexact Hcs03
  iintro ⟨HO, Hzs03, Hs03⟩
  iapply runs_ret
  iapply Hk
  isplitl [HO]; · iexact HO
  isplitl [Hzs02]; · iexact Hzs02
  isplitl [Hs02]; · iexact Hs02
  isplitl [Hzs12]; · iexact Hzs12
  isplitl [Hs12]; · iexact Hs12
  isplitl [Hzs03]; · iexact Hzs03
  iexact Hs03

end Cert.KernelIdeal.Attn
-- ==== Proof.Cut.lean ====
/-
The scratch buffers cut into their slots and put together again, and the result's staging buffer from its four blocks of
rows.
-/
module

public import proofs.«01_k».proof.Proof.Steps
public import Idealize.ShloMosaic.Lib.Pipeline.ValueKit.Geometry
public import Idealize.ShloMosaic.Lib.ValueIdxCore

@[expose] public section

set_option maxRecDepth 4000

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A separating conjunction over two, written out. -/
theorem bigSep_fin2 (Φ : Fin 2 → sProp 𝕄) : bigSep Finset.univ Φ = iprop(Φ 0 ∗ Φ 1) :=
  bigSep_univ_eq_bigSepL [0, 1] (by decide) (by decide) Φ
omit [FloatOps F] in
/-- A separating conjunction over four, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- The eight slots in the order the kernel sends them. -/
theorem bigSep_slots (Φ : Fin 2 × Fin 4 → sProp 𝕄) :
    bigSep Finset.univ Φ = iprop(Φ (0, 0) ∗ Φ (0, 1) ∗ Φ (1, 0) ∗ Φ (0, 2) ∗ Φ (1, 1) ∗ Φ (0, 3) ∗ Φ (1, 2) ∗ Φ (1, 3)) :=
  bigSep_univ_eq_bigSepL [(0, 0), (0, 1), (1, 0), (0, 2), (1, 1), (0, 3), (1, 2), (1, 3)] (by decide) (by decide) Φ

/-! ## A whole buffer and its rectangles -/

section Cut

variable {B : Type} [Fintype B] [DecidableEq B] (b : Ref sig .tc) (r : B → Rect b.ty.shape)
  (hd : ∀ i j, i ≠ j → Disjoint (r i).set (r j).set) (hc : Finset.univ.biUnion (fun i => (r i).set) = Finset.univ) (c : Dev nD)

omit [FloatOps F] in
include hd hc in
/-- A buffer held whole is each of its rectangles held; -/
theorem cut_any :
    (iprop(∃ f : Buf (Elt F) ((c : Thread nD τ).loc b), ((c : Thread nD τ).loc b) ↦{fullShare} f) : sProp 𝕄)
      ⊢ bigSep Finset.univ fun i => holdsAny (F := F) ((Memref.whole b).access (r i)) c := by
  have hone (f : Buf (Elt F) ((c : Thread nD τ).loc b)) (i : B) :
      (((c : Thread nD τ).loc b) ↦[(r i).set]{fullShare} f : sProp 𝕄) ⊢ holdsAny (F := F) ((Memref.whole b).access (r i)) c := by
    unfold holdsAny holds
    iintro H
    iexists _, f
    isplitr; · ipureintro; rfl
    rw [show ((Memref.whole b).access (r i)).set = (r i).set from View.set_slice_whole b (r i)]
    iexact H
  iintro ⟨%f, H⟩
  iapply ((Entails.of_eq (Ring.pointsTo_blocks (ℓ := (c : Thread nD τ).loc b) (fun i => (r i).set) hd hc f)).trans
    (bigSep_mono fun i _ => hone f i))
  iexact H

omit [FloatOps F] in
include hd hc in
/-- and back. -/
theorem join_any (f₀ : Buf (Elt F) ((c : Thread nD τ).loc b)) :
    (bigSep Finset.univ fun i => holdsAny (F := F) ((Memref.whole b).access (r i)) c)
      ⊢ (iprop(∃ f : Buf (Elt F) ((c : Thread nD τ).loc b), ((c : Thread nD τ).loc b) ↦{fullShare} f) : sProp 𝕄) := by
  refine .trans (bigSep_mono fun i _ => show holdsAny (F := F) ((Memref.whole b).access (r i)) c
    ⊢ (iprop(∃ f, ((c : Thread nD τ).loc b) ↦[(r i).set]{fullShare} f) : sProp 𝕄) from ?_)
    (Ring.pointsTo_blocks_join_exists (ℓ := (c : Thread nD τ).loc b) (fun i => (r i).set) hd hc f₀)
  unfold holdsAny holds
  iintro ⟨%w, %f, -, H⟩
  rw [show ((Memref.whole b).access (r i)).set = (r i).set from View.set_slice_whole b (r i)]
  iexists f; iexact H

end Cut

/-! ## The families -/

/-- The indices of a block's slot. -/
theorem mem_slot (st : Fin 2) (b : Fin 4) (y : S2x4x128x1024.Idx) : y ∈ (slotR st b).set ↔ (y 0).val = st.val ∧ (y 1).val = b.val := by
  rw [Rect.mem_set_unit]
  have h2 : (y 2).val < 128 := (y 2).isLt
  have h3 : (y 3).val < 1024 := (y 3).isLt
  constructor
  · intro H
    have a0 : st.val ≤ (y 0).val ∧ (y 0).val < st.val + 1 := H 0
    have a1 : b.val ≤ (y 1).val ∧ (y 1).val < b.val + 1 := H 1
    omega
  · rintro ⟨e0, e1⟩ i; fin_cases i
    · show st.val ≤ (y 0).val ∧ (y 0).val < st.val + 1; omega
    · show b.val ≤ (y 1).val ∧ (y 1).val < b.val + 1; omega
    · show 0 ≤ (y 2).val ∧ (y 2).val < 0 + 128; omega
    · show 0 ≤ (y 3).val ∧ (y 3).val < 0 + 1024; omega

/-- Different slots are disjoint. -/
theorem slot_disjoint (p q : Fin 2 × Fin 4) (h : p ≠ q) : Disjoint (slotR p.1 p.2).set (slotR q.1 q.2).set := by
  rw [Finset.disjoint_left]; intro y hy hy'
  rw [mem_slot] at hy hy'
  exact h (Prod.ext (Fin.ext (hy.1.symm.trans hy'.1)) (Fin.ext (hy.2.symm.trans hy'.2)))
/-- The slots make up the buffer. -/
theorem slot_cover : Finset.univ.biUnion (fun p : Fin 2 × Fin 4 => (slotR p.1 p.2).set) = Finset.univ := by
  ext y; simp only [Finset.mem_biUnion, Finset.mem_univ, true_and, iff_true]
  exact ⟨(⟨(y 0).val, (y 0).isLt⟩, ⟨(y 1).val, (y 1).isLt⟩), by rw [mem_slot]; exact ⟨rfl, rfl⟩⟩

/-- The indices of one head's half. -/
theorem mem_half (j : Fin 2) (y : S2x2048x128.Idx) : y ∈ (halfR j).set ↔ (y 0).val = j.val := by
  rw [Rect.mem_set_unit]
  have h1 : (y 1).val < 2048 := (y 1).isLt
  have h2 : (y 2).val < 128 := (y 2).isLt
  constructor
  · intro H
    have a0 : j.val ≤ (y 0).val ∧ (y 0).val < j.val + 1 := H 0
    omega
  · intro e0 i; fin_cases i
    · show j.val ≤ (y 0).val ∧ (y 0).val < j.val + 1; omega
    · show 0 ≤ (y 1).val ∧ (y 1).val < 0 + 2048; omega
    · show 0 ≤ (y 2).val ∧ (y 2).val < 0 + 128; omega

/-- The halves are disjoint. -/
theorem half_disjoint (i j : Fin 2) (h : i ≠ j) : Disjoint (halfR i).set (halfR j).set := by
  rw [Finset.disjoint_left]; intro y hy hy'
  rw [mem_half] at hy hy'
  exact h (Fin.ext (hy.symm.trans hy'))
/-- The halves make up the buffer. -/
theorem half_cover : Finset.univ.biUnion (fun j : Fin 2 => (halfR j).set) = Finset.univ := by
  ext y; simp only [Finset.mem_biUnion, Finset.mem_univ, true_and, iff_true]
  exact ⟨⟨(y 0).val, (y 0).isLt⟩, by rw [mem_half]⟩

/-- The indices of a block of rows. -/
theorem mem_row (b : Fin 4) (y : S1x512x1024.Idx) : y ∈ (rowR b).set ↔ (y 1).val / 128 = b.val := by
  rw [Rect.mem_set_unit]
  have h0 : (y 0).val < 1 := (y 0).isLt
  have h1 : (y 1).val < 512 := (y 1).isLt
  have h2 : (y 2).val < 1024 := (y 2).isLt
  constructor
  · intro H
    have a1 : 128 * b.val ≤ (y 1).val ∧ (y 1).val < 128 * b.val + 128 := H 1
    omega
  · intro e1 i; fin_cases i
    · show 0 ≤ (y 0).val ∧ (y 0).val < 0 + 1; omega
    · show 128 * b.val ≤ (y 1).val ∧ (y 1).val < 128 * b.val + 128; omega
    · show 0 ≤ (y 2).val ∧ (y 2).val < 0 + 1024; omega

/-- The blocks of rows are disjoint. -/
theorem row_disjoint (i j : Fin 4) (h : i ≠ j) : Disjoint (rowR i).set (rowR j).set := by
  rw [Finset.disjoint_left]; intro y hy hy'
  rw [mem_row] at hy hy'
  exact h (Fin.ext (hy.symm.trans hy'))
/-- The blocks of rows make up the result. -/
theorem row_cover : Finset.univ.biUnion (fun b : Fin 4 => (rowR b).set) = Finset.univ := by
  ext y; simp only [Finset.mem_biUnion, Finset.mem_univ, true_and, iff_true]
  have h1 : (y 1).val < 512 := (y 1).isLt
  exact ⟨⟨(y 1).val / 128, by omega⟩, by rw [mem_row]⟩

/-! ## The result -/

/-- The result of device `c`, whole: each row in its block. -/
def outAt (c : Dev nD) : (cc0_stg3_0 : Ref sig .tc).ty.Contents (Elt F) := fun (y : S1x512x1024.Idx) =>
  fin m ρ c ⟨(y 1).val / 128, by have h : (y 1).val < 512 := (y 1).isLt; omega⟩
    (ValueIdx.ix3 (⟨0, Nat.one_pos⟩ : Fin 1) (⟨(y 1).val % 128, Nat.mod_lt _ (by decide)⟩ : Fin 128) (⟨(y 2).val, (y 2).isLt⟩ : Fin 1024))

/-- The result read through a block of rows is that block's final sum. -/
theorem outAt_row (c : Dev nD) (b : Fin 4) (x : S1x128x1024.Idx) : outAt m ρ c ((outV b).emb x) = fin m ρ c b x := by
  have h0 : (x 0).val < 1 := (x 0).isLt
  have h1 : (x 1).val < 128 := (x 1).isLt
  have e1 : ((((outV b).emb x : S1x512x1024.Idx) 1 : Fin _) : ℕ) = 128 * b.val + (x 1).val :=
    ValueKit.view_emb_slice_whole_unit_val cc0_stg3_0 ![0, 128 * b.val, 0] S1x128x1024.size (row_inb b) x 1
  have e2 : ((((outV b).emb x : S1x512x1024.Idx) 2 : Fin _) : ℕ) = 0 + (x 2).val :=
    ValueKit.view_emb_slice_whole_unit_val cc0_stg3_0 ![0, 128 * b.val, 0] S1x128x1024.size (row_inb b) x 2
  unfold outAt
  have eb : (⟨(((outV b).emb x : S1x512x1024.Idx) 1 : ℕ) / 128, by have h : (((outV b).emb x : S1x512x1024.Idx) 1 : ℕ) < 512 := (((outV b).emb x : S1x512x1024.Idx) 1).isLt; omega⟩ : Fin 4) = b :=
    Fin.ext (by show (((outV b).emb x : S1x512x1024.Idx) 1 : ℕ) / 128 = b.val; rw [e1]; omega)
  rw [eb]
  congr 1
  funext a
  fin_cases a
  · exact Fin.ext (by show 0 = (x 0).val; omega)
  · exact Fin.ext (by show (((outV b).emb x : S1x512x1024.Idx) 1 : ℕ) % 128 = (x 1).val; rw [e1]; omega)
  · exact Fin.ext (by show (((outV b).emb x : S1x512x1024.Idx) 2 : ℕ) = (x 2).val; rw [e2]; omega)

/-- The four blocks of rows of the finished result are the whole result. -/
theorem join_out (c : Dev nD) :
    (bigSep Finset.univ fun b : Fin 4 => holds (outV b) c fullShare (fin m ρ c b))
      ⊢ (((c : Thread nD τ).loc cc0_stg3_0) ↦{fullShare} outAt m ρ c : sProp 𝕄) := by
  rw [Ring.pointsTo_blocks (ℓ := (c : Thread nD τ).loc cc0_stg3_0) (fun b : Fin 4 => (rowR b).set) row_disjoint row_cover]
  refine bigSep_mono fun b _ => show holds (outV b) c fullShare (fin m ρ c b)
    ⊢ (((c : Thread nD τ).loc cc0_stg3_0) ↦[(rowR b).set]{fullShare} outAt m ρ c : sProp 𝕄) from ?_
  unfold holds
  iintro ⟨%f, %hf, H⟩
  rw [show (outV b).set = (rowR b).set from View.set_slice_whole cc0_stg3_0 (rowR b)]
  iapply (Entails.of_eq (pointsTo_congr (ℓ := (c : Thread nD τ).loc cc0_stg3_0) (q := fullShare) (f := f) (g := outAt m ρ c)
    (I := (rowR b).set) (fun i hi => by
      rw [← View.set_slice_whole cc0_stg3_0 (rowR b)] at hi
      obtain ⟨x, hx⟩ := View.exists_emb_of_mem_set (outV b) hi
      rw [← hx, outAt_row, ← hf]; rfl)))
  iexact H

/-! ## A staged input held whole -/

omit [FloatOps F] in
/-- A region from zero of the whole extent is every index. -/
theorem whole_set (b : Ref sig .tc) {off : Fin b.ty.shape.rank → ℕ} (h : off = fun _ => 0) (inb) :
    ((Memref.whole b).access (Rect.unit off b.ty.shape.size inb)).set = Finset.univ := by
  subst h
  rw [View.set_slice_whole]
  ext i; simp only [Finset.mem_univ, iff_true]
  rw [Rect.mem_set_unit]
  exact fun a => ⟨Nat.zero_le _, by have := (i a).isLt; omega⟩

omit [FloatOps F] in
/-- A whole buffer read through such a region is the buffer. -/
theorem whole_holds (b : Ref sig .tc) {off : Fin b.ty.shape.rank → ℕ} (h : off = fun _ => 0) (inb) (c : Dev nD)
    (f : Buf (Elt F) ((c : Thread nD τ).loc b)) :
    ((((c : Thread nD τ).loc b) ↦{fullShare} f) : sProp 𝕄)
      = holds ((Memref.whole b).access (Rect.unit off b.ty.shape.size inb)) c fullShare f := by
  have hr (g : Buf (Elt F) ((c : Thread nD τ).loc b)) : ((Memref.whole b).access (Rect.unit off b.ty.shape.size inb)).read (Elt F) g = g :=
    Memref.readAt_unit_zero (Elt F) b h inb g
  refine BI.Entails.antisymm
    (show (((c : Thread nD τ).loc b) ↦{fullShare} f : sProp 𝕄) ⊢ holds ((Memref.whole b).access (Rect.unit off b.ty.shape.size inb)) c fullShare f from ?_)
    (show holds ((Memref.whole b).access (Rect.unit off b.ty.shape.size inb)) c fullShare f ⊢ (((c : Thread nD τ).loc b) ↦{fullShare} f : sProp 𝕄) from ?_) <;>
    unfold holds <;> rw [whole_set b h inb]
  · iintro H; iexists f
    isplitr; · ipureintro; exact hr f
    iexact H
  · iintro ⟨%g, %hg, H⟩
    rw [hr g] at hg
    subst hg
    iexact H

end Cert.KernelIdeal.Attn
-- ==== Proof.Run.lean ====
/-
The kernel's body as a whole: what a device holds at its start and at its end, its parts run one after the other.
-/
module

public import proofs.«01_k».proof.Proof.Body
public import proofs.«01_k».proof.Proof.Cut

@[expose] public section

set_option maxRecDepth 4000

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The twenty-one cells one by one. -/
theorem bigSep_cells (Φ : Option (Fin 20) → sProp 𝕄) :
    bigSep Finset.univ Φ = iprop(Φ none ∗ Φ (some (ldK 0)) ∗ Φ (some (ldK 1)) ∗ Φ (some (ldK 2)) ∗ Φ (some (ldK 3)) ∗ Φ (some (sndK 0 0)) ∗ Φ (some (sndK 0 1)) ∗ Φ (some (sndK 1 0)) ∗ Φ (some (sndK 0 2)) ∗ Φ (some (sndK 1 1)) ∗ Φ (some (sndK 0 3)) ∗ Φ (some (sndK 1 2)) ∗ Φ (some (sndK 1 3)) ∗ Φ (some (rcvK 0 0)) ∗ Φ (some (rcvK 0 1)) ∗ Φ (some (rcvK 1 0)) ∗ Φ (some (rcvK 0 2)) ∗ Φ (some (rcvK 1 1)) ∗ Φ (some (rcvK 0 3)) ∗ Φ (some (rcvK 1 2)) ∗ Φ (some (rcvK 1 3))) :=
  bigSep_univ_eq_bigSepL [none, some (ldK 0), some (ldK 1), some (ldK 2), some (ldK 3), some (sndK 0 0), some (sndK 0 1), some (sndK 1 0), some (sndK 0 2), some (sndK 1 1), some (sndK 0 3), some (sndK 1 2), some (sndK 1 3), some (rcvK 0 0), some (rcvK 0 1), some (rcvK 1 0), some (rcvK 0 2), some (rcvK 1 1), some (rcvK 0 3), some (rcvK 1 2), some (rcvK 1 3)] (by decide) (by decide) Φ

/-! ## What a device holds -/

/-- Its positions on its own cells. -/
def posns (c : Dev nD) : sProp 𝕄 := bigSep Finset.univ fun k : Option (Fin 20) => atPos ER (kcell (c, k)) 0 ∅ 0

/-- The tokens of the payments it makes: a unit on each partner's barrier cell, its loads, its sends' reading, and its
    sends' landing at the partner. -/
def payToks (c : Dev nD) : sProp 𝕄 :=
  iprop((dutyTok ER (barCell (peer 0 c)) 0 0 ∗ dutyTok ER (barCell (peer 1 c)) 0 1)
    ∗ (bigSep Finset.univ fun i : Fin 4 => dutyTok ER (kcell (c, some (ldK i))) 0 0)
    ∗ (bigSep Finset.univ fun p : Fin 2 × Fin 4 => dutyTok ER (sndCell c p.1 p.2) 0 0)
    ∗ bigSep Finset.univ fun p : Fin 2 × Fin 4 => dutyTok ER (rcvCell (peer p.1 c) p.1 p.2) 0 0)

/-- The credits it waits with at the barrier and for its landings. -/
def wcreds (c : Dev nD) : sProp 𝕄 :=
  iprop(cred (tallyAt (barCell c) () 2) ∗ bigSep Finset.univ fun p : Fin 2 × Fin 4 => cred (tallyAt (rcvCell c p.1 p.2) () N))

/-- The heads of the big arrays its copies read. -/
def lent (c : Dev nD) : sProp 𝕄 :=
  iprop(kSrc m c 0 fullShare.left.left ∗ vSrc m c 0 fullShare.left.left ∗ kSrc m c 1 fullShare.left.right ∗ vSrc m c 1 fullShare.left.right)

/-- The scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The protocol's share of device `c`, the records at hand. -/
def ghost (K : Dev nD × Option (Fin 20) → ℕ) (c : Dev nD) : sProp 𝕄 := iprop(records m ρ K ∗ posns c ∗ payToks c)

def start (c : Dev nD) : sProp 𝕄 := iprop((∃ K, ghost m ρ K c) ∗ wcreds c ∗ levAts L lv ∗ lent m c)

/-- Before the point, and after it: every cell closed. -/
def Φ₀ (c : Dev nD) : sProp 𝕄 := iprop(start m ρ c ∗ scr c)
def Φ₁ (c : Dev nD) : sProp 𝕄 := iprop((bigSep Finset.univ fun k : Option (Fin 20) => semVal (kcell (c, k)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => qstg m ρ c
    | ⟨2, _⟩ => ostg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The only grid point fetches each argument window. -/
theorem fetch_in (w : Fin cfg0.W) (h : w.val < 3) (t : Fin cfg0.N) : (cfg0.win w).fetch t = true := by
  rw [fin_N0 t]
  match w, h with
  | ⟨0, _⟩, _ => rfl
  | ⟨1, _⟩, _ => rfl
  | ⟨2, _⟩, _ => rfl

omit [FloatOps F] in
/-- Owning a whole buffer at given contents, in two spellings. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The slots at the start and at the end -/

omit [FloatOps F] in
/-- The scratch buffers are their halves and slots; the landing slots stage by stage. -/
theorem scr_cut (c : Dev nD) :
    (scr c : sProp 𝕄) ⊢ iprop((bigSep Finset.univ fun j : Fin 2 => holdsAny (F := F) (kV j) c)
      ∗ (bigSep Finset.univ fun j : Fin 2 => holdsAny (F := F) (vV j) c)
      ∗ (bigSep Finset.univ fun p : Fin 2 × Fin 4 => holdsAny (F := F) (sV p.1 p.2) c)
      ∗ (bigSep Finset.univ fun b : Fin 4 => holdsAny (F := F) (rV 0 b) c) ∗ bigSep Finset.univ fun b : Fin 4 => holdsAny (F := F) (rV 1 b) c) := by
  unfold scr
  refine BI.sep_mono (cut_any cc0_scratch0 halfR half_disjoint half_cover c)
    (BI.sep_mono (cut_any cc0_scratch1 halfR half_disjoint half_cover c)
      (BI.sep_mono (cut_any cc0_scratch2 (fun p : Fin 2 × Fin 4 => slotR p.1 p.2) slot_disjoint slot_cover c) ?_))
  refine (cut_any cc0_scratch3 (fun p : Fin 2 × Fin 4 => slotR p.1 p.2) slot_disjoint slot_cover c).trans (Entails.of_eq ?_)
  rw [bigSep_univ_prod, bigSep_fin2]

include m in
omit [FloatOps F] in
/-- The scratch buffers' parts make up the scratch buffers. -/
theorem scr_join (c : Dev nD) :
    iprop((bigSep Finset.univ fun j : Fin 2 => holdsAny (F := F) (kV j) c)
      ∗ (bigSep Finset.univ fun j : Fin 2 => holdsAny (F := F) (vV j) c)
      ∗ (bigSep Finset.univ fun p : Fin 2 × Fin 4 => holdsAny (F := F) (sV p.1 p.2) c)
      ∗ bigSep Finset.univ fun p : Fin 2 × Fin 4 => holdsAny (F := F) (rV p.1 p.2) c) ⊢ (scr c : sProp 𝕄) := by
  unfold scr
  refine BI.sep_mono (join_any cc0_scratch0 halfR half_disjoint half_cover c (m ((c : Thread nD τ).loc cc0_scratch0)))
    (BI.sep_mono (join_any cc0_scratch1 halfR half_disjoint half_cover c (m ((c : Thread nD τ).loc cc0_scratch1)))
      (BI.sep_mono (join_any cc0_scratch2 (fun p : Fin 2 × Fin 4 => slotR p.1 p.2) slot_disjoint slot_cover c (m ((c : Thread nD τ).loc cc0_scratch2)))
        (join_any cc0_scratch3 (fun p : Fin 2 × Fin 4 => slotR p.1 p.2) slot_disjoint slot_cover c (m ((c : Thread nD τ).loc cc0_scratch3)))))

/-- The zero offset of three axes. -/
theorem z3 : (![0, 0, 0] : Fin 3 → Nat) = fun _ => 0 := funext fun a => by fin_cases a <;> rfl
/-- The zero offset of two axes. -/
theorem z2 : (![0, 0] : Fin 2 → Nat) = fun _ => 0 := funext fun a => by fin_cases a <;> rfl

/-! ## The body -/

section Whole

/-- A program and its continuation. -/
theorem runs_bind (α β : Type) (c : Dev nD) (p : Prog _ α) (k : α → Prog _ β) (Kt : β → sProp 𝕄) :
    runs (F := F) c p (fun a => runs c (k a) Kt) ⊢ runs c (p >>= k) Kt := by unfold runs; rw [wp_bind]

variable (K : Dev nD × Option (Fin 20) → ℕ)

def bodyPre (c : Dev nD) : sProp 𝕄 :=
  iprop((ghost m ρ K c ∗ wcreds c ∗ levAts L lv ∗ lent m c ∗ scr c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 (xstg m ρ c) ∗ stg c cc0_stg1_0 (qstg m ρ c)
    ∗ stg c cc0_stg2_0 (ostg m ρ c) ∗ stg c cc0_stg3_0 (outAt m ρ c))

set_option maxHeartbeats 1600000 in
/-- The body from `bodyPre` to `bodyPost`. -/
theorem sound_body (c : Dev nD) (Kt : PUnit → sProp 𝕄) :
    iprop(bodyPre m ρ K c ∗ (bodyPost m ρ c -∗ Kt ⟨⟩))
      ⊢ runs c (cc0_body (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6) Kt := by
  simp only [cc0_body_eq_skeleton]; unfold cc0_body_skel
  unfold bodyPre ghost posns payToks wcreds lent
  simp only [bigSep_cells, bigSep_slots, bigSep_fin4]
  iintro ⟨⟨⟨⟨#HR, ⟨Hab, Hal0, Hal1, Hal2, Hal3, Has00, Has01, Has10, Has02, Has11, Has03, Has12, Has13, Har00, Har01, Har10, Har02, Har11, Har03, Har12, Har13⟩, ⟨Htb0, Htb1⟩, ⟨Htl0, Htl1, Htl2, Htl3⟩, ⟨Hts00, Hts01, Hts10, Hts02, Hts11, Hts03, Hts12, Hts13⟩, Htr00, Htr01, Htr10, Htr02, Htr11, Htr03, Htr12, Htr13⟩,
    ⟨Hcb, Hcr00, Hcr01, Hcr10, Hcr02, Hcr11, Hcr03, Hcr12, Hcr13⟩, #Hlev, ⟨Hsrc0, Hsrc1, Hsrc2, Hsrc3⟩, Hscr⟩,
    Ho, ⟨%d0, %g0, %hg0, Hx⟩, ⟨%d1, %g1, %hg1, Hq⟩, ⟨%d2, %g2, %hg2, Hw⟩, ⟨%d3, %g3, %hg3, Hout⟩⟩, Hk⟩
  have hx : g0 = xstg m ρ c := by rw [hg0]; unfold Dat.before; rw [if_pos (fetch_in 0 (by decide) t0_0)]; rfl
  have hq : g1 = qstg m ρ c := by rw [hg1]; unfold Dat.before; rw [if_pos (fetch_in 1 (by decide) t0_0)]; rfl
  have hw : g2 = ostg m ρ c := by rw [hg2]; unfold Dat.before; rw [if_pos (fetch_in 2 (by decide) t0_0)]; rfl
  subst hx hq hw
  unfold Dat.owesAt Pipeline.owesWithin
  icases Ho with ⟨%W, %hW, HO⟩
  rw [show (dats m ρ 0 c).owed t0_0.castSucc = O₀ c from rfl]
  ihave Hx := (Entails.of_eq (whole_holds cc0_stg0_0 z3 inb_S1x512x1024_S1x512x1024_0_0_0 c (xstg m ρ c))) $$ Hx
  ihave Hq := (Entails.of_eq (whole_holds cc0_stg1_0 z2 inb_S1024x1024_S1024x1024_0_0 c (qstg m ρ c))) $$ Hq
  ihave Hw := (Entails.of_eq (whole_holds cc0_stg2_0 z2 inb_S1024x1024_S1024x1024_0_0 c (ostg m ρ c))) $$ Hw
  ihave Hscr := (scr_cut (F := F) c) $$ Hscr
  icases Hscr with ⟨Hk', Hv', Hs', Hb0, Hb1⟩
  ihave Hk' := (Entails.of_eq (bigSep_fin2 (F := F) _)) $$ Hk'
  icases Hk' with ⟨Hh0, Hh2⟩
  ihave Hv' := (Entails.of_eq (bigSep_fin2 (F := F) _)) $$ Hv'
  icases Hv' with ⟨Hh1, Hh3⟩
  ihave Hs' := (Entails.of_eq (bigSep_slots (F := F) _)) $$ Hs'
  icases Hs' with ⟨Hs00, Hs01, Hs10, Hs02, Hs11, Hs03, Hs12, Hs13⟩
  ihave Hout := (show (((c : Thread nD τ).loc cc0_stg3_0) ↦{fullShare} g3 : sProp 𝕄) ⊢ bigSep Finset.univ fun b : Fin 4 => holdsAny (F := F) (outV b) c from by
    refine .trans ?_ (cut_any cc0_stg3_0 rowR row_disjoint row_cover c)
    iintro H; iexists g3; iexact H) $$ Hout
  ihave Hout := (Entails.of_eq (bigSep_fin4 (F := F) _)) $$ Hout
  icases Hout with ⟨Ho0, Ho1, Ho2, Ho3⟩
  -- part 1
  iapply (runs_bind _ _ c)
  rw [k0_part1_eq_skeleton]
  iapply (part1 m ρ K c)
  isplitr; · iexact HR
  isplitr; · iexact Hlev
  isplitl [HO]; · iexact HO
  isplitl [Htb0]; · iexact Htb0
  isplitl [Htb1]; · iexact Htb1
  isplitl [Hb0]; · iexact Hb0
  isplitl [Hb1]; · iexact Hb1
  isplitl [Hab]; · iexact Hab
  isplitl [Hcb]; · iexact Hcb
  isplitl [Hsrc0]; · iexact Hsrc0
  isplitl [Hh0]; · iexact Hh0
  isplitl [Htl0]; · iexact Htl0
  isplitl [Hsrc1]; · iexact Hsrc1
  isplitl [Hh1]; · iexact Hh1
  isplitl [Htl1]; · iexact Htl1
  iintro %v3 %v4 %v24
  iintro ⟨HO, Hzb, Hland, Hcl0, Hcl1⟩
  ihave Hland := (Entails.of_eq (bigSep_fin2 (F := F) _)) $$ Hland
  icases Hland with ⟨Hl0, Hl1⟩
  ihave Hl0 := (Entails.of_eq (bigSep_fin4 (F := F) _)) $$ Hl0
  icases Hl0 with ⟨Hd00, Hd01, Hd02, Hd03⟩
  ihave Hl1 := (Entails.of_eq (bigSep_fin4 (F := F) _)) $$ Hl1
  icases Hl1 with ⟨Hd10, Hd11, Hd12, Hd13⟩
  -- part 2
  iapply (runs_bind _ _ c)
  rw [k0_part2_eq_skeleton]
  iapply (part2 m ρ K c)
  isplitr; · iexact HR
  isplitr; · iexact Hlev
  isplitl [Hsrc2]; · iexact Hsrc2
  isplitl [Hh2]; · iexact Hh2
  isplitl [Htl2]; · iexact Htl2
  isplitl [Hsrc3]; · iexact Hsrc3
  isplitl [Hh3]; · iexact Hh3
  isplitl [Htl3]; · iexact Htl3
  isplitl [Hx]; · iexact Hx
  isplitl [Hq]; · iexact Hq
  isplitl [Hw]; · iexact Hw
  iintro ⟨Hcl2, Hcl3, Hx, Hq, Hw⟩
  -- part 3
  iapply (runs_bind _ _ c)
  rw [k0_part3_eq_skeleton]
  iapply (part3 m ρ K c)
  isplitr; · iexact HR
  isplitr; · iexact Hlev
  isplitl [HO]; · iexact HO
  isplitl [Hal0]; · iexact Hal0
  isplitl [Hcl0]; · iexact Hcl0
  isplitl [Hal1]; · iexact Hal1
  isplitl [Hcl1]; · iexact Hcl1
  isplitl [Hal2]; · iexact Hal2
  isplitl [Hcl2]; · iexact Hcl2
  isplitl [Hal3]; · iexact Hal3
  isplitl [Hcl3]; · iexact Hcl3
  iintro ⟨HO, Hzl0, Hh0, Hzl1, Hh1, Hzl2, Hh2, Hzl3, Hh3⟩
  -- part 4
  iapply (runs_bind _ _ c)
  rw [k0_part4_eq_skeleton]
  iapply (part4 m ρ K c)
  isplitr; · iexact HR
  isplitr; · iexact Hlev
  isplitl [Hh1]; · iexact Hh1
  isplitl [Hh3]; · iexact Hh3
  iintro ⟨Hh1, Hh3⟩
  -- part 5
  iapply (runs_bind _ _ c)
  rw [k0_part5_eq_skeleton]
  iapply (part5 m ρ K c)
  isplitr; · iexact HR
  isplitr; · iexact Hlev
  isplitl [Ho0]; · iexact Ho0
  iintro Ho0
  -- part 6
  iapply (runs_bind _ _ c)
  rw [k0_part6_eq_skeleton]
  iapply (part6 m ρ K c)
  isplitr; · iexact HR
  isplitr; · iexact Hlev
  isplitl [HO]; · iexact HO
  isplitl [Hs00]; · iexact Hs00
  isplitl [Hd00]; · iexact Hd00
  isplitl [Hts00]; · iexact Hts00
  isplitl [Htr00]; · iexact Htr00
  iintro ⟨HO, Hcs00⟩
  -- part 7
  iapply (runs_bind _ _ c)
  rw [k0_part7_eq_skeleton]
  iapply (part7 m ρ K c)
  isplitr; · iexact HR
  isplitr; · iexact Hlev
  isplitr; · iempintro
  iintro -
  -- part 8
  iapply (runs_bind _ _ c)
  rw [k0_part8_eq_skeleton]
  iapply (part8 m ρ K c)
  isplitr; · iexact HR
  isplitr; · iexact Hlev
  isplitl [HO]; · iexact HO
  isplitl [Ho1]; · iexact Ho1
  isplitl [Hs01]; · iexact Hs01
  isplitl [Hd01]; · iexact Hd01
  isplitl [Hts01]; · iexact Hts01
  isplitl [Htr01]; · iexact Htr01
  iintro ⟨HO, Ho1, Hcs01⟩
  -- part 9
  iapply (runs_bind _ _ c)
  rw [k0_part9_eq_skeleton]
  iapply (part9 m ρ K c)
  isplitr; · iexact HR
  isplitr; · iexact Hlev
  isplitl [HO]; · iexact HO
  isplitl [Har00]; · iexact Har00
  isplitl [Hcr00]; · iexact Hcr00
  isplitl [Ho0]; · iexact Ho0
  isplitl [Hs10]; · iexact Hs10
  iintro ⟨HO, Hzr00, Hr00, Ho0, Hs10⟩
  -- part 10
  iapply (runs_bind _ _ c)
  rw [k0_part10_eq_skeleton]
  iapply (part10 m ρ K c)
  isplitr; · iexact HR
  isplitr; · iexact Hlev
  isplitl [HO]; · iexact HO
  isplitl [Hs10]; · iexact Hs10
  isplitl [Hd10]; · iexact Hd10
  isplitl [Hts10]; · iexact Hts10
  isplitl [Htr10]; · iexact Htr10
  iintro ⟨HO, Hcs10⟩
  -- part 11
  iapply (runs_bind _ _ c)
  rw [k0_part11_eq_skeleton]
  iapply (part11 m ρ K c)
  isplitr; · iexact HR
  isplitr; · iexact Hlev
  isplitl [Ho2]; · iexact Ho2
  iintro Ho2
  -- part 12
  iapply (runs_bind _ _ c)
  rw [k0_part12_eq_skeleton]
  iapply (part12 m ρ K c)
  isplitr; · iexact HR
  isplitr; · iexact Hlev
  isplitl [HO]; · iexact HO
  isplitl [Hs02]; · iexact Hs02
  isplitl [Hd02]; · iexact Hd02
  isplitl [Hts02]; · iexact Hts02
  isplitl [Htr02]; · iexact Htr02
  isplitl [Har01]; · iexact Har01
  isplitl [Hcr01]; · iexact Hcr01
  isplitl [Ho1]; · iexact Ho1
  iintro ⟨HO, Hcs02, Hzr01, Hr01, Ho1⟩
  -- part 13
  iapply (runs_bind _ _ c)
  rw [k0_part13_eq_skeleton]
  iapply (part13 m ρ K c)
  isplitr; · iexact HR
  isplitr; · iexact Hlev
  isplitl [HO]; · iexact HO
  isplitl [Hr01]; · iexact Hr01
  isplitl [Ho1]; · iexact Ho1
  isplitl [Hs11]; · iexact Hs11
  isplitl [Hd11]; · iexact Hd11
  isplitl [Hts11]; · iexact Hts11
  isplitl [Htr11]; · iexact Htr11
  iintro ⟨HO, Hr01, Ho1, Hcs11⟩
  -- part 14
  iapply (runs_bind _ _ c)
  rw [k0_part14_eq_skeleton]
  iapply (part14 m ρ K c)
  isplitr; · iexact HR
  isplitr; · iexact Hlev
  isplitr; · iempintro
  iintro -
  -- part 15
  iapply (runs_bind _ _ c)
  rw [k0_part15_eq_skeleton]
  iapply (part15 m ρ K c)
  isplitr; · iexact HR
  isplitr; · iexact Hlev
  isplitl [Ho3]; · iexact Ho3
  isplitl [Hs03]; · iexact Hs03
  iintro ⟨Ho3, Hs03⟩
  -- part 16
  iapply (runs_bind _ _ c)
  rw [k0_part16_eq_skeleton]
  iapply (part16 m ρ K c)
  isplitr; · iexact HR
  isplitr; · iexact Hlev
  isplitl [HO]; · iexact HO
  isplitl [Hs03]; · iexact Hs03
  isplitl [Hd03]; · iexact Hd03
  isplitl [Hts03]; · iexact Hts03
  isplitl [Htr03]; · iexact Htr03
  isplitl [Har02]; · iexact Har02
  isplitl [Hcr02]; · iexact Hcr02
  isplitl [Ho2]; · iexact Ho2
  isplitl [Hs12]; · iexact Hs12
  iintro ⟨HO, Hcs03, Hzr02, Hr02, Ho2, Hs12⟩
  -- part 17
  iapply (runs_bind _ _ c)
  rw [k0_part17_eq_skeleton]
  iapply (part17 m ρ K c)
  isplitr; · iexact HR
  isplitr; · iexact Hlev
  isplitl [HO]; · iexact HO
  isplitl [Hs12]; · iexact Hs12
  isplitl [Hd12]; · iexact Hd12
  isplitl [Hts12]; · iexact Hts12
  isplitl [Htr12]; · iexact Htr12
  isplitl [Har03]; · iexact Har03
  isplitl [Hcr03]; · iexact Hcr03
  isplitl [Ho3]; · iexact Ho3
  iintro ⟨HO, Hcs12, Hzr03, Hr03, Ho3⟩
  -- part 18
  iapply (runs_bind _ _ c)
  rw [k0_part18_eq_skeleton]
  iapply (part18 m ρ K c)
  isplitr; · iexact HR
  isplitr; · iexact Hlev
  isplitl [HO]; · iexact HO
  isplitl [Ho3]; · iexact Ho3
  isplitl [Hs13]; · iexact Hs13
  isplitl [Hd13]; · iexact Hd13
  isplitl [Hts13]; · iexact Hts13
  isplitl [Htr13]; · iexact Htr13
  iintro ⟨HO, Ho3, Hcs13⟩
  -- part 19
  iapply (runs_bind _ _ c)
  rw [k0_part19_eq_skeleton]
  iapply (part19 m ρ K c)
  isplitr; · iexact HR
  isplitr; · iexact Hlev
  isplitl [HO]; · iexact HO
  isplitl [Har10]; · iexact Har10
  isplitl [Hcr10]; · iexact Hcr10
  isplitl [Har11]; · iexact Har11
  isplitl [Hcr11]; · iexact Hcr11
  isplitl [Ho0]; · iexact Ho0
  isplitl [Ho1]; · iexact Ho1
  iintro ⟨HO, Hzr10, Hzr11, Hr10, Hr11, Ho0, Ho1⟩
  -- part 20
  iapply (runs_bind _ _ c)
  rw [k0_part20_eq_skeleton]
  iapply (part20 m ρ K c)
  isplitr; · iexact HR
  isplitr; · iexact Hlev
  isplitl [HO]; · iexact HO
  isplitl [Har12]; · iexact Har12
  isplitl [Hcr12]; · iexact Hcr12
  isplitl [Ho1]; · iexact Ho1
  isplitl [Ho2]; · iexact Ho2
  iintro ⟨HO, Hzr12, Hr12, Ho1, Ho2⟩
  -- part 21
  iapply (runs_bind _ _ c)
  rw [k0_part21_eq_skeleton]
  iapply (part21 m ρ K c)
  isplitr; · iexact HR
  isplitr; · iexact Hlev
  isplitl [HO]; · iexact HO
  isplitl [Har13]; · iexact Har13
  isplitl [Hcr13]; · iexact Hcr13
  isplitl [Ho3]; · iexact Ho3
  isplitl [Has00]; · iexact Has00
  isplitl [Hcs00]; · iexact Hcs00
  iintro ⟨HO, Hzr13, Hr13, Ho3, Hzs00, Hs00⟩
  -- part 22
  iapply (runs_bind _ _ c)
  rw [k0_part22_eq_skeleton]
  iapply (part22 m ρ K c)
  isplitr; · iexact HR
  isplitr; · iexact Hlev
  isplitl [HO]; · iexact HO
  isplitl [Has10]; · iexact Has10
  isplitl [Hcs10]; · iexact Hcs10
  isplitl [Has01]; · iexact Has01
  isplitl [Hcs01]; · iexact Hcs01
  isplitl [Has11]; · iexact Has11
  isplitl [Hcs11]; · iexact Hcs11
  iintro ⟨HO, Hzs10, Hs10, Hzs01, Hs01, Hzs11, Hs11⟩
  -- part 23
  iapply (runs_bind _ _ c)
  rw [k0_part23_eq_skeleton]
  iapply (part23 m ρ K c)
  isplitr; · iexact HR
  isplitr; · iexact Hlev
  isplitl [HO]; · iexact HO
  isplitl [Has02]; · iexact Has02
  isplitl [Hcs02]; · iexact Hcs02
  isplitl [Has12]; · iexact Has12
  isplitl [Hcs12]; · iexact Hcs12
  isplitl [Has03]; · iexact Has03
  isplitl [Hcs03]; · iexact Hcs03
  iintro ⟨HO, Hzs02, Hs02, Hzs12, Hs12, Hzs03, Hs03⟩
  simp only [Prog.lift, Prog.bind_op, Prog.bind_ret, Prog.pure_eq_ret]
  iapply (wait_snd m ρ K c 1 3 rfl) $$ [HO Has13 Hcs13]
  · isplitr; · iexact HR
    isplitr; · iexact Hlev
    isplitl [HO]; · iexact HO
    isplitl [Has13]; · iexact Has13
    iexact Hcs13
  iintro ⟨HO, Hzs13, Hs13⟩
  iapply runs_ret
  iapply Hk
  unfold bodyPost Φ₁ Dat.owesAt Pipeline.owesWithin owesL
  icases HO with ⟨%W', HO⟩
  rw [show (dats m ρ 0 c).owed t0_0.succ = 0 from rfl]
  ihave Hr00 := any_of $$ Hr00
  ihave Hr01 := any_of $$ Hr01
  ihave Hr10 := any_of $$ Hr10
  ihave Hr02 := any_of $$ Hr02
  ihave Hr11 := any_of $$ Hr11
  ihave Hr03 := any_of $$ Hr03
  ihave Hr12 := any_of $$ Hr12
  ihave Hr13 := any_of $$ Hr13
  ihave Hh0 := any_of $$ Hh0
  ihave Hh1 := any_of $$ Hh1
  ihave Hh2 := any_of $$ Hh2
  ihave Hh3 := any_of $$ Hh3
  isplitl [Hzb Hzl0 Hzl1 Hzl2 Hzl3 Hzs00 Hzs01 Hzs10 Hzs02 Hzs11 Hzs03 Hzs12 Hzs13 Hzr00 Hzr01 Hzr10 Hzr02 Hzr11 Hzr03 Hzr12 Hzr13 Hs00 Hs01 Hs10 Hs02 Hs11 Hs03 Hs12 Hs13 Hr00 Hr01 Hr10 Hr02 Hr11 Hr03 Hr12 Hr13 Hh0 Hh1 Hh2 Hh3]
  · isplitl [Hzb Hzl0 Hzl1 Hzl2 Hzl3 Hzs00 Hzs01 Hzs10 Hzs02 Hzs11 Hzs03 Hzs12 Hzs13 Hzr00 Hzr01 Hzr10 Hzr02 Hzr11 Hzr03 Hzr12 Hzr13]
    · iapply (Entails.of_eq (bigSep_cells (F := F) _).symm)
      isplitl [Hzb]; · iexact Hzb
      isplitl [Hzl0]; · iexact Hzl0
      isplitl [Hzl1]; · iexact Hzl1
      isplitl [Hzl2]; · iexact Hzl2
      isplitl [Hzl3]; · iexact Hzl3
      isplitl [Hzs00]; · iexact Hzs00
      isplitl [Hzs01]; · iexact Hzs01
      isplitl [Hzs10]; · iexact Hzs10
      isplitl [Hzs02]; · iexact Hzs02
      isplitl [Hzs11]; · iexact Hzs11
      isplitl [Hzs03]; · iexact Hzs03
      isplitl [Hzs12]; · iexact Hzs12
      isplitl [Hzs13]; · iexact Hzs13
      isplitl [Hzr00]; · iexact Hzr00
      isplitl [Hzr01]; · iexact Hzr01
      isplitl [Hzr10]; · iexact Hzr10
      isplitl [Hzr02]; · iexact Hzr02
      isplitl [Hzr11]; · iexact Hzr11
      isplitl [Hzr03]; · iexact Hzr03
      isplitl [Hzr12]; · iexact Hzr12
      iexact Hzr13
    iapply (scr_join (F := F) m c)
    isplitl [Hh0 Hh2]
    · iapply (Entails.of_eq (bigSep_fin2 (F := F) _).symm)
      isplitl [Hh0]; · iexact Hh0
      iexact Hh2
    isplitl [Hh1 Hh3]
    · iapply (Entails.of_eq (bigSep_fin2 (F := F) _).symm)
      isplitl [Hh1]; · iexact Hh1
      iexact Hh3
    isplitl [Hs00 Hs01 Hs10 Hs02 Hs11 Hs03 Hs12 Hs13]
    · iapply (Entails.of_eq (bigSep_slots (F := F) _).symm)
      isplitl [Hs00]; · iexact Hs00
      isplitl [Hs01]; · iexact Hs01
      isplitl [Hs10]; · iexact Hs10
      isplitl [Hs02]; · iexact Hs02
      isplitl [Hs11]; · iexact Hs11
      isplitl [Hs03]; · iexact Hs03
      isplitl [Hs12]; · iexact Hs12
      iexact Hs13
    iapply (Entails.of_eq (bigSep_slots (F := F) _).symm)
    isplitl [Hr00]; · iexact Hr00
    isplitl [Hr01]; · iexact Hr01
    isplitl [Hr10]; · iexact Hr10
    isplitl [Hr02]; · iexact Hr02
    isplitl [Hr11]; · iexact Hr11
    isplitl [Hr03]; · iexact Hr03
    isplitl [Hr12]; · iexact Hr12
    iexact Hr13
  isplitl [HO]
  · iexists W'
    isplitr; · ipureintro; exact fun _ _ => Or.inl trivial
    iexact HO
  isplitl [Hx]
  · iexists _; isplitr; · (ipureintro; rfl)
    iapply (Entails.of_eq (whole_holds cc0_stg0_0 z3 inb_S1x512x1024_S1x512x1024_0_0_0 c (xstg m ρ c)).symm); iexact Hx
  isplitl [Hq]
  · iexists _; isplitr; · (ipureintro; rfl)
    iapply (Entails.of_eq (whole_holds cc0_stg1_0 z2 inb_S1024x1024_S1024x1024_0_0 c (qstg m ρ c)).symm); iexact Hq
  isplitl [Hw]
  · iexists _; isplitr; · (ipureintro; rfl)
    iapply (Entails.of_eq (whole_holds cc0_stg2_0 z2 inb_S1024x1024_S1024x1024_0_0 c (ostg m ρ c)).symm); iexact Hw
  iexists _; isplitr; · (ipureintro; rfl)
  iapply (join_out m ρ c)
  iapply (Entails.of_eq (bigSep_fin4 (F := F) _).symm)
  isplitl [Ho0]; · iexact Ho0
  isplitl [Ho1]; · iexact Ho1
  isplitl [Ho2]; · iexact Ho2
  iexact Ho3

def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- The launch's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (F := F) xM (Memref.isWhole_whole _) qM (Memref.isWhole_whole _) oM (Memref.isWhole_whole _) khM (Memref.isWhole_whole _) vhM (Memref.isWhole_whole _) outM (Memref.isWhole_whole _) kM (Memref.isWhole_whole _) vM (Memref.isWhole_whole _) sM (Memref.isWhole_whole _) rM (Memref.isWhole_whole _) cc0_scratch4 cc0_scratch5 cc0_scratch6) (fun _ => bodyPost m ρ c)
  unfold bodyPre' Φ₀ start
  iintro ⟨⟨⟨⟨%K, Hg⟩, Hc, Hl, Hs⟩, Hscr⟩, Ho, Hx, Hq, Hw, Hout⟩
  iapply (sound_body m ρ K c fun _ => bodyPost m ρ c)
  unfold bodyPre
  isplitr []
  · isplitl [Hg Hc Hl Hs Hscr]
    · isplitl [Hg]; · iexact Hg
      isplitl [Hc]; · iexact Hc
      isplitl [Hl]; · iexact Hl
      isplitl [Hs]; · iexact Hs
      iexact Hscr
    isplitl [Ho]; · iexact Ho
    isplitl [Hx]; · iexact Hx
    isplitl [Hq]; · iexact Hq
    isplitl [Hw]; · iexact Hw
    iexact Hout
  · iintro H; iexact H

end Whole

end Cert.KernelIdeal.Attn
-- ==== Proof.Deal.lean ====
/-
The launch: what is minted, how it is dealt to the devices, and the run of the four devices from any memory.
-/
module

public import proofs.«01_k».proof.Proof.Run
public import Idealize.ShloMosaic.Lib.Pipeline.CollectiveSegs

@[expose] public section

set_option maxRecDepth 4000

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The counters that the kernel owns are its own. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Different devices or places have different counters. -/
theorem kcell_injective : Function.Injective (kcell : Dev nD × Option (Fin 20) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## What is minted -/

def allCells : Finset (GSem nD τ sig) := Finset.univ.map ⟨kcell, kcell_injective⟩

/-- A device's tokens as minted: one per cell, and the barrier's second. -/
abbrev tokOf (cj : Dev nD × Option (Option (Fin 20))) : GSem nD τ sig × ℕ × Fin 2 := match cj.2 with
  | none => (barCell cj.1, 0, 1)
  | some k => (kcell (cj.1, k), 0, 0)

/-- Different duties have different tokens. -/
theorem tokOf_injective : Function.Injective tokOf := by
  rintro ⟨c, _ | k⟩ ⟨c', _ | k'⟩ h
  · have h1 : c = c' := congrArg (fun x : GSem nD τ sig × ℕ × Fin 2 => x.1.1.1) h
    rw [h1]
  · exact absurd (congrArg (fun x : GSem nD τ sig × ℕ × Fin 2 => x.2.2) h) (by show ¬ (1 : Fin 2) = 0; decide)
  · exact absurd (congrArg (fun x : GSem nD τ sig × ℕ × Fin 2 => x.2.2) h) (by show ¬ (0 : Fin 2) = 1; decide)
  · have h1 := kcell_injective (congrArg Prod.fst h)
    rw [Prod.mk.injEq] at h1
    have h2 : c = c' := h1.1
    have h3 : k = k' := h1.2
    rw [h2, h3]

def allToks : Finset (GSem nD τ sig × ℕ × Fin 2) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop(dutyTok ER (barCell c) 0 1 ∗ bigSep Finset.univ fun k : Option (Fin 20) => dutyTok ER (kcell (c, k)) 0 0)

/-- What the launch deals device `c`, and what the first step of all devices makes of it. -/
def G (c : Dev nD) : sProp 𝕄 :=
  iprop((bigSep Finset.univ fun k : Option (Fin 20) => roundState ER (rd m ρ) (kcell (c, k)) 0)
    ∗ (bigSep Finset.univ fun k : Option (Fin 20) => iprop(atPos ER (kcell (c, k)) 0 ∅ 0 ∗ reached ER (kcell (c, k)) 0)) ∗ toks c)
def G' (c : Dev nD) : sProp 𝕄 := iprop(∃ K, ghost m ρ K c)

omit [FloatOps F] in
/-- A separating conjunction over an optional index: the missing one, and the rest. -/
theorem bigSep_option {I : Type} [Fintype I] [DecidableEq I] (Φ : Option I → sProp 𝕄) :
    bigSep Finset.univ Φ = iprop(Φ none ∗ bigSep Finset.univ fun i : I => Φ (some i)) := by
  rw [bigSep_univ_at Φ none]
  congr 1
  rw [show (Finset.univ.erase none : Finset (Option I)) = Finset.univ.map Function.Embedding.some from by
    ext x; cases x <;> simp, bigSep_map]
  rfl

/-- The initial resource pays for every device's counters and tokens. -/
theorem fund_all : BI.own (ER (initOf allCells allToks)) ⊢ (|==> bigSep Finset.univ (G m ρ) : sProp 𝕄) := by
  have hX (Φ : GSem nD τ sig → sProp 𝕄) : bigSep allCells Φ
      = bigSep Finset.univ fun c : Dev nD => bigSep Finset.univ fun k : Option (Fin 20) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_option]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- Every device's cells at zero: its own semaphores and the barrier's. -/
theorem sems0_eq (c : Dev nD) :
    (bigSep Finset.univ fun k : Option (Fin 20) => semVal (kcell (c, k)) 0 : sProp 𝕄)
      = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5, 8, 6, 9, 7, 10, 11, 12, 13, 16, 14, 17, 15, 18, 19] (by decide) (by decide), bigSep_cells]
  unfold unscopedSems0; rw [bigSep_eq_bigSepL_of_eq [SemLoc.reg barS] (by decide) (by decide)]; rfl

/-- A device's counters are put under their protocol. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option (Fin 20) => iprop(∃ κ : ℕ, cellInv ER (rd m ρ) κ (kcell (c, k))))
          ∗ (bigSep Finset.univ fun k : Option (Fin 20) => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Option (Fin 20) => semVal (kcell (c, k)) 0) ∗ bigSep Finset.univ fun k : Option (Fin 20) => roundState ER (rd m ρ) (kcell (c, k)) 0)
      ⊢ (|={Set.univ}=> bigSep Finset.univ fun k : Option (Fin 20) => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay -/

omit [FloatOps F] in
/-- A device's counters: the barrier's, the loads', the sends' and the receives'. -/
theorem cells_split (Φ : Option (Fin 20) → sProp 𝕄) :
    bigSep Finset.univ Φ ⊢ iprop(Φ none ∗ (bigSep Finset.univ fun i : Fin 4 => Φ (some (ldK i)))
      ∗ (bigSep Finset.univ fun p : Fin 2 × Fin 4 => Φ (some (sndK p.1 p.2)))
      ∗ bigSep Finset.univ fun p : Fin 2 × Fin 4 => Φ (some (rcvK p.1 p.2))) := by
  rw [bigSep_cells, bigSep_fin4, bigSep_slots, bigSep_slots]
  iintro ⟨Hn, Hl0, Hl1, Hl2, Hl3, Hs00, Hs01, Hs10, Hs02, Hs11, Hs03, Hs12, Hs13, Hr00, Hr01, Hr10, Hr02, Hr11, Hr03, Hr12, Hr13⟩
  isplitl [Hn]; · iexact Hn
  isplitl [Hl0 Hl1 Hl2 Hl3]
  · isplitl [Hl0]; · iexact Hl0
    isplitl [Hl1]; · iexact Hl1
    isplitl [Hl2]; · iexact Hl2
    iexact Hl3
  isplitl [Hs00 Hs01 Hs10 Hs02 Hs11 Hs03 Hs12 Hs13]
  · isplitl [Hs00]; · iexact Hs00
    isplitl [Hs01]; · iexact Hs01
    isplitl [Hs10]; · iexact Hs10
    isplitl [Hs02]; · iexact Hs02
    isplitl [Hs11]; · iexact Hs11
    isplitl [Hs03]; · iexact Hs03
    isplitl [Hs12]; · iexact Hs12
    iexact Hs13
  isplitl [Hr00]; · iexact Hr00
  isplitl [Hr01]; · iexact Hr01
  isplitl [Hr10]; · iexact Hr10
  isplitl [Hr02]; · iexact Hr02
  isplitl [Hr11]; · iexact Hr11
  isplitl [Hr03]; · iexact Hr03
  isplitl [Hr12]; · iexact Hr12
  iexact Hr13

/-- A landing cell of device `c` is paid by its partner of the cell's stage. -/
def across : Dev nD × (Fin 2 × Fin 4) ≃ Dev nD × (Fin 2 × Fin 4) where
  toFun x := (peer x.2.1 x.1, x.2)
  invFun x := (peer x.2.1 x.1, x.2)
  left_inv x := Prod.ext (peer_peer _ _) rfl
  right_inv x := Prod.ext (peer_peer _ _) rfl

/-- The neighbour that a token of an exchange goes to. -/
theorem across_apply (x : Dev nD × (Fin 2 × Fin 4)) : across x = (peer x.2.1 x.1, x.2) := rfl
/-- The same, of one exchange. -/
theorem swap_apply (st : Fin 2) (c : Dev nD) : swap st c = peer st c := rfl

omit [FloatOps F] in
/-- Every device's tokens, dealt to the devices that pay them. -/
theorem toks_across : (bigSep Finset.univ fun c : Dev nD => (toks c : sProp 𝕄)) ⊢ bigSep Finset.univ fun c : Dev nD => payToks c := by
  have hR : (bigSep Finset.univ fun c : Dev nD => bigSep Finset.univ fun p : Fin 2 × Fin 4 => (dutyTok ER (rcvCell c p.1 p.2) 0 0 : sProp 𝕄))
      = bigSep Finset.univ fun c : Dev nD => bigSep Finset.univ fun p : Fin 2 × Fin 4 => dutyTok ER (rcvCell (peer p.1 c) p.1 p.2) 0 0 := by
    rw [← bigSep_univ_prod (fun x : Dev nD × (Fin 2 × Fin 4) => (dutyTok ER (rcvCell x.1 x.2.1 x.2.2) 0 0 : sProp 𝕄)),
      ← bigSep_univ_prod (fun x : Dev nD × (Fin 2 × Fin 4) => (dutyTok ER (rcvCell (peer x.2.1 x.1) x.2.1 x.2.2) 0 0 : sProp 𝕄)),
      bigSep_univ_equiv across (fun x : Dev nD × (Fin 2 × Fin 4) => (dutyTok ER (rcvCell x.1 x.2.1 x.2.2) 0 0 : sProp 𝕄))]
    exact bigSep_congr fun x _ => by rw [across_apply]
  have hB (st d : Fin 2) : (bigSep Finset.univ fun c : Dev nD => (dutyTok ER (barCell c) 0 d : sProp 𝕄))
      = bigSep Finset.univ fun c : Dev nD => dutyTok ER (barCell (peer st c)) 0 d := by
    rw [bigSep_univ_equiv (swap st) (fun c : Dev nD => (dutyTok ER (barCell c) 0 d : sProp 𝕄))]
    exact bigSep_congr fun c _ => by rw [swap_apply]
  refine (bigSep_mono fun c _ => show toks c ⊢ iprop(dutyTok ER (barCell c) 0 1 ∗ dutyTok ER (barCell c) 0 0
      ∗ (bigSep Finset.univ fun i : Fin 4 => dutyTok ER (kcell (c, some (ldK i))) 0 0)
      ∗ (bigSep Finset.univ fun p : Fin 2 × Fin 4 => dutyTok ER (sndCell c p.1 p.2) 0 0)
      ∗ bigSep Finset.univ fun p : Fin 2 × Fin 4 => dutyTok ER (rcvCell c p.1 p.2) 0 0) from ?_).trans ?_
  · unfold toks
    exact sep_mono_right (cells_split _)
  · unfold payToks
    rw [bigSep_sep', bigSep_sep', bigSep_sep', bigSep_sep', bigSep_sep', bigSep_sep', bigSep_sep', bigSep_sep', hR, hB 0 0, hB 1 1]
    generalize (bigSep Finset.univ fun c : Dev nD => (dutyTok ER (barCell (peer 1 c)) 0 1 : sProp 𝕄)) = A
    generalize (bigSep Finset.univ fun c : Dev nD => (dutyTok ER (barCell (peer 0 c)) 0 0 : sProp 𝕄)) = B
    refine show iprop(A ∗ B ∗ _) ⊢ iprop((B ∗ A) ∗ _) from ?_
    iintro ⟨H1, H0, Hr⟩
    isplitl [H0 H1]
    · isplitl [H0]; · iexact H0
      iexact H1
    iexact Hr

omit [FloatOps F] in
/-- A lasting fact may be given to every member of a separating conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What was allocated, device by device. -/
theorem regroup :
    (bigSep Finset.univ fun c : Dev nD => iprop((bigSep Finset.univ fun k : Option (Fin 20) => iprop(∃ κ : ℕ, cellInv ER (rd m ρ) κ (kcell (c, k))))
          ∗ (bigSep Finset.univ fun k : Option (Fin 20) => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 20) => iprop(∃ κ : ℕ, cellInv ER (rd m ρ) κ (kcell ck))),
    bigSep_congr (s := Finset.univ) (fun (c : Dev nD) _ => bigSep_sep' Finset.univ (fun k : Option (Fin 20) => (atPos ER (kcell (c, k)) 0 ∅ 0 : sProp 𝕄)) (fun k => reached ER (kcell (c, k)) 0)),
    bigSep_sep', ← bigSep_univ_prod (fun ck : Dev nD × Option (Fin 20) => (reached ER (kcell ck) 0 : sProp 𝕄))]
  iintro ⟨HI, ⟨Hat, #HR⟩, Htok⟩
  ihave HK := (BI.bigSep_exists_pi Finset.univ (fun (ck : Dev nD × Option (Fin 20)) (κ : ℕ) => (cellInv ER (rd m ρ) κ (kcell ck) : sProp 𝕄))) $$ HI
  icases HK with ⟨%K, #HI⟩
  ihave Htk := (toks_across (F := F)) $$ Htok
  iapply (bigSep_with_persistent (R := records m ρ K) (Φ := fun c => iprop(posns c ∗ payToks c)) fun c _ =>
    show iprop(records m ρ K ∗ posns c ∗ payToks c) ⊢ G' m ρ c from by
      unfold G' ghost; iintro H; iexists K; iexact H)
  isplitr
  · unfold records; rw [bigSep_sep']
    isplitl; · iexact HI
    iexact HR
  · iapply (Entails.of_eq (bigSep_sep' Finset.univ (fun c : Dev nD => (posns c : sProp 𝕄)) payToks).symm)
    isplitl [Hat]; · iexact Hat
    iexact Htk

/-- All devices' start from all devices' counters. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- Two counters are one exactly when device and place are. -/
theorem kcell_eq_iff {a b : Dev nD × Option (Fin 20)} : Iff (kcell a = kcell b) (a = b) :=
  ⟨fun h => kcell_injective h, fun h => h ▸ rfl⟩

/-- Of the transfers of a list device `d` owes device `c`'s landing cell the one to that cell, if `d` is the partner. -/
theorem ow_rcv (d c : Dev nD) (st : Fin 2) (b : Fin 4) (l : List (Fin 2 × Fin 4)) (hl : l.Nodup) :
    ow d l (rcvCell c st b) () = if (st, b) ∈ l ∧ d = peer st c then N else 0 := by
  induction l with
  | nil => rw [if_neg (fun h => by cases h.1)]; rfl
  | cons p l ih =>
    rw [ow, Pi.add_apply, Finsupp.add_apply, tallyAt_apply, ih (List.nodup_cons.mp hl).2]
    by_cases hp : rcvCell c st b = rcvCell (peer p.1 d) p.1 p.2
    · have h1 := kcell_injective hp
      rw [Prod.mk.injEq, Option.some.injEq] at h1
      have h2 : (st, b) = p := by
        have h3 : 12 + 4 * st.val + b.val = 12 + 4 * p.1.val + p.2.val := congrArg Fin.val h1.2
        obtain ⟨a, e⟩ := p
        ext <;> dsimp at h3 ⊢ <;> omega
      subst h2
      have h4 : d = peer st c := by rw [h1.1, peer_peer]
      rw [if_neg (fun h => (List.nodup_cons.mp hl).1 h.1), if_pos ⟨hp, rfl⟩, if_pos ⟨List.mem_cons_self, h4⟩, zero_add]
    · rw [if_neg (c := rcvCell c st b = rcvCell (peer p.1 d) p.1 p.2 ∧ () = ()) (fun h => hp h.1), add_zero]
      refine if_congr ⟨fun h => ⟨List.mem_cons_of_mem _ h.1, h.2⟩, fun h => ⟨?_, h.2⟩⟩ rfl rfl
      rcases List.mem_cons.mp h.1 with e | e
      · exact absurd (by rw [← e, h.2, peer_peer]) hp
      · exact e

/-- A barrier is no receive counter. -/
theorem bar_ne_rcv (c d : Dev nD) (st : Fin 2) (b : Fin 4) : barCell c ≠ rcvCell d st b := fun h => by
  have h := kcell_injective h
  rw [Prod.mk.injEq] at h
  cases h.2

/-- The exchanges to come owe no barrier. -/
theorem ow_bar (d c : Dev nD) (l : List (Fin 2 × Fin 4)) : ow d l (barCell c) () = 0 := by
  by_contra h
  obtain ⟨p, -, e⟩ := ow_pos (Nat.pos_of_ne_zero h)
  exact bar_ne_rcv _ _ _ _ e

/-- A barrier is a neighbour's exactly when the devices are neighbours. -/
theorem bar_peer (st : Fin 2) (d c : Dev nD) : (barCell c = barCell (peer st d) ∧ () = ()) ↔ d = peer st c := by
  constructor
  · rintro ⟨h, -⟩
    have h := kcell_injective h
    rw [Prod.mk.injEq] at h
    rw [h.1, peer_peer]
  · rintro rfl
    exact ⟨by rw [peer_peer], rfl⟩

/-- What a device owes another's barrier at the start. -/
theorem owed_bar (d c : Dev nD) : O₀ d (barCell c) () = (if d = peer 1 c then 1 else 0) + (if d = peer 0 c then 1 else 0) := by
  unfold O₀ O₁
  rw [Pi.add_apply, Finsupp.add_apply, Pi.add_apply, Finsupp.add_apply, ow_bar, zero_add, tallyAt_apply, tallyAt_apply,
    if_congr (bar_peer 1 d c) rfl rfl, if_congr (bar_peer 0 d c) rfl rfl]

/-- Every block of both exchanges is in the order of the sends. -/
theorem mem_order : ∀ (st : Fin 2) (b : Fin 4), (st, b) ∈ order := by decide

/-- What a device owes another's receive counter at the start. -/
theorem owed_rcv (d c : Dev nD) (st : Fin 2) (b : Fin 4) : O₀ d (rcvCell c st b) () = if d = peer st c then N else 0 := by
  unfold O₀ O₁
  rw [Pi.add_apply, Finsupp.add_apply, Pi.add_apply, Finsupp.add_apply, tallyAt_apply, tallyAt_apply,
    if_neg (fun h => bar_ne_rcv _ _ _ _ h.1.symm), if_neg (fun h => bar_ne_rcv _ _ _ _ h.1.symm), add_zero, add_zero,
    ow_rcv d c st b order (by decide)]
  exact if_congr ⟨fun h => h.2, fun h => ⟨mem_order st b, h⟩⟩ rfl rfl

/-- The credit of a barrier at the launch: two signals. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer 1 c) fun _ => 1, Finset.sum_ite_eq' Finset.univ (peer 0 c) fun _ => 1, if_pos (Finset.mem_univ _), if_pos (Finset.mem_univ _)]

/-- The credit of a receive counter at the launch: one block. -/
theorem launch_rcv (c : Dev nD) (st : Fin 2) (b : Fin 4) :
    tallyOn (rcvCell c st b) (launchCredit (Pipeline.owing O₀) 0 (rcvCell c st b)) = (tallyAt (rcvCell c st b) () N : CellTallies nD τ sig Unit) := by
  unfold tallyAt; refine congrArg _ (Finsupp.ext fun u => ?_); cases u
  rw [Pipeline.launchCredit_owing, Finsupp.single_eq_same, Finset.sum_congr rfl fun d _ => owed_rcv d c st b, Finset.sum_ite_eq' Finset.univ (peer st c) fun _ => N,
    if_pos (Finset.mem_univ _)]

/-- The landing cells' semaphores. -/
def rcvSem : Fin 2 × Fin 4 ↪ SemLoc sig := ⟨fun p => csem (some (rcvK p.1 p.2)), fun p p' h => by
  have h1 := csem_injective h
  rw [Option.some.injEq] at h1
  have h3 : 12 + 4 * p.1.val + p.2.val = 12 + 4 * p'.1.val + p'.2.val := congrArg Fin.val h1
  ext <;> omega⟩

omit [FloatOps F] in
/-- A device's credits at the launch. -/
theorem creds (c : Dev nD) : (Pipeline.launchCred O₀ c : sProp 𝕄) ⊢ wcreds c := by
  unfold Pipeline.launchCred wcreds
  rw [bigSep_univ_at _ (SemLoc.reg barS), launch_bar]
  refine sep_mono_right ?_
  have hs : Finset.univ.map rcvSem ⊆ Finset.univ.erase (SemLoc.reg barS) := fun x hx => by
    obtain ⟨p, -, rfl⟩ := Finset.mem_map.mp hx
    exact Finset.mem_erase.mpr ⟨fun h => (by cases h), Finset.mem_univ _⟩
  refine show _ ⊢ _ from Entails.trans (bigSep_subset hs) (Entails.of_eq ?_)
  · rw [bigSep_map]
    exact bigSep_congr fun p _ => congrArg _ (launch_rcv c p.1 p.2)

/-! ## The big arrays -/

/-- What stays outside the body: half of each of the two big arrays. -/
def kept (c : Dev nD) : sProp 𝕄 :=
  iprop((((c : Thread nD τ).loc main_arg3) ↦{fullShare.right} m ((c : Thread nD τ).loc main_arg3))
    ∗ (((c : Thread nD τ).loc main_arg4) ↦{fullShare.right} m ((c : Thread nD τ).loc main_arg4)))

omit [FloatOps F] in
/-- A whole array gives some elements of it at a quarter, some at another quarter, and half of all of it. -/
theorem lend_of (ℓ : Loc nD τ sig) (f : Buf (Elt F) ℓ) (I I' : Finset (ℓ.2.ty.shape.Idx)) :
    (ℓ ↦{fullShare} f : sProp 𝕄) ⊢ iprop((ℓ ↦[I]{fullShare.left.left} f) ∗ (ℓ ↦[I']{fullShare.left.right} f) ∗ (ℓ ↦{fullShare.right} f)) := by
  iintro H
  ihave H := ((pointsTo_share (ℓ := ℓ) (I := Finset.univ) (f := f) (PosShare.mem_left_op_right fullShare)).1) $$ H
  icases H with ⟨Hl, Hr⟩
  ihave Hl := ((pointsTo_share (ℓ := ℓ) (I := Finset.univ) (f := f) (PosShare.mem_left_op_right fullShare.left)).1) $$ Hl
  icases Hl with ⟨Ha, Hb⟩
  ihave Ha := ((pointsTo_split_subset (ℓ := ℓ) (q := fullShare.left.left) (f := f) (Finset.subset_univ I)).1) $$ Ha
  ihave Hb := ((pointsTo_split_subset (ℓ := ℓ) (q := fullShare.left.right) (f := f) (Finset.subset_univ I')).1) $$ Hb
  icases Ha with ⟨Ha, -⟩
  icases Hb with ⟨Hb, -⟩
  isplitl [Ha]; · iexact Ha
  isplitl [Hb]; · iexact Hb
  iexact Hr

/-! ## The run -/

/-- A device's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ kept m c) := by
  rw [Pipeline.unscopedRestP_none, unscopedRest0_eq]
  iintro ⟨⟨H3, H4⟩, Hlev, Hcr, -, HG⟩
  ihave Hc := (creds (F := F) c) $$ Hcr
  ihave H3 := (lend_of (F := F) ((c : Thread nD τ).loc main_arg3) (m ((c : Thread nD τ).loc main_arg3)) (khV c 0).set (khV c 1).set) $$ H3
  ihave H4 := (lend_of (F := F) ((c : Thread nD τ).loc main_arg4) (m ((c : Thread nD τ).loc main_arg4)) (vhV c 0).set (vhV c 1).set) $$ H4
  icases H3 with ⟨Hk0, Hk1, Hk⟩
  icases H4 with ⟨Hv0, Hv1, Hv⟩
  imodintro
  unfold start G' lent kept
  isplitr [Hk Hv]
  · isplitl [HG]; · iexact HG
    isplitl [Hc]; · iexact Hc
    isplitl [Hlev]; · iexact Hlev
    isplitl [Hk0]; · iexact Hk0
    isplitl [Hv0]; · iexact Hv0
    isplitl [Hk1]; · iexact Hk1
    iexact Hv1
  · isplitl [Hk]; · iexact Hk
    iexact Hv

/-- The start gives the state before the grid point, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- and the state after it gives the end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems0_eq]
  iintro ⟨⟨Hu, Ho⟩, Hr⟩
  isplitl [Hu]; · iexact Hu
  isplitl [Ho]; · iexact Ho
  iexact Hr

/-- Every wait of the pipeline is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the end of a run says of the memory of device `c` beside the windows' arrays. -/
def endsAt (c : Dev nD) (s : MemSt nD τ sig (Elt F)) : Prop :=
  (s.mem ((c : Thread nD τ).loc main_arg3) = m ((c : Thread nD τ).loc main_arg3)
    ∧ s.mem ((c : Thread nD τ).loc main_arg4) = m ((c : Thread nD τ).loc main_arg4))
  ∧ ∀ sm : SemLoc sig, sm.isScoped .tc = false → s.sem ((c.tc : Thread nD τ), sm) = 0

omit [FloatOps F] in
/-- What the end says of the final memory. -/
theorem end_read (c : Dev nD) (s' : Phys nD τ sig (Elt F)) :
    iprop(unscopedSems0 c ∗ kept m c ∗ SI s') ⊢ |={Set.univ}=> (iprop(⌜endsAt m c s'.mem⌝ ∗ SI s') : sProp 𝕄) := by
  unfold kept
  iintro ⟨Hu, ⟨H3, H4⟩, HSI⟩
  icombine HSI H3 gives %h3
  icombine HSI H4 gives %h4
  imod (Pipeline.unscopedSems0_read (X := unscopedSems0 c) (c := c) fupd_intro s') $$ [Hu HSI] with ⟨%hs, HSI⟩
  · isplitl [Hu] <;> iassumption
  imodintro
  isplitr
  · ipureintro; exact ⟨⟨Buf.eq_of_forall_mem_univ h3, Buf.eq_of_forall_mem_univ h4⟩, hs⟩
  iexact HSI

/-- A device's windows' arrays at the end of the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ endsAt m c r.2

set_option maxRecDepth 8000 in
/-- On the four devices, for any float values, from any memory with zero counters: every weakly fair execution of the program
    terminates; every final state has each device's result at the computed contents, its arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := kept m)
    (hX := start_intro m ρ) (hin := phi0_intro m ρ) (hout := phi1_exit m ρ)
    (QY := fun c s => endsAt m c s)
    (hY := fun c s' => end_read m c s')
    (hQ := fun _ h hs => ⟨fun c => ⟨fun w => (h c).1 w, (h c).2.2⟩, sem_eq_zero hs fun c => (h c).2.2.2⟩)

/-- The windows' argument arrays after the run hold what they held. -/
theorem finalA_in (c : Dev nD) (w : Fin cfg0.W) (h : w.val < 3) : finalA m ρ c w = (s₀ m ρ).mem ((cfg0.win w).arr.view.loc (c : Thread nD τ)) :=
  match w, h with
  | ⟨0, _⟩, _ => (dats (F := F) m ρ 0 c).arrAt_in (0 : Fin 4) rfl _
  | ⟨1, _⟩, _ => (dats (F := F) m ρ 0 c).arrAt_in (1 : Fin 4) rfl _
  | ⟨2, _⟩, _ => (dats (F := F) m ρ 0 c).arrAt_in (2 : Fin 4) rfl _

/-- Every argument of every device ends unchanged. -/
theorem args_kept (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 (0 : Fin 4)).trans (finalA_in m ρ c 0 (by decide)), ((h c).1 (1 : Fin 4)).trans (finalA_in m ρ c 1 (by decide)),
    ((h c).1 (2 : Fin 4)).trans (finalA_in m ρ c 2 (by decide)), (h c).2.1.1, (h c).2.1.2⟩

end Cert.KernelIdeal.Attn
-- ==== Proof.Soft.lean ====
/-
A softmax average over the extended reals: with real scores, the average taken in two chunks under a running maximum is the
average taken at once with no maximum subtracted.
-/
module

public import Idealize.ShloMosaic.PureOps.Ideal
public import Idealize.ShloMosaic.PureOps.Ideal.Laws

@[expose] public section

noncomputable section

namespace Cert.Soft

open Idealize.ShloMosaic
open scoped BigOperators

/-- An extended real that is a real. -/
def Fin' (x : EReal) : Prop := ∃ r : ℝ, x = (r : EReal)

/-- Neither infinity: a real. -/
theorem fin_of_ne {x : EReal} (h1 : x ≠ ⊤) (h2 : x ≠ ⊥) : Fin' x := ⟨x.toReal, (EReal.coe_toReal h1 h2).symm⟩

/-- A product of real numbers is real. -/
theorem fin_mul {x y : EReal} (hx : Fin' x) (hy : Fin' y) : Fin' (x * y) := by
  obtain ⟨a, rfl⟩ := hx; obtain ⟨b, rfl⟩ := hy; exact ⟨a * b, (EReal.coe_mul a b).symm⟩

/-- A sum of reals, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of real numbers is real. -/
theorem fin_sum {ι : Type} (s : Finset ι) {f : ι → EReal} (hf : ∀ i, Fin' (f i)) : Fin' (∑ i ∈ s, f i) := by
  choose g hg using hf
  exact ⟨∑ i ∈ s, g i, by rw [← sum_coe]; exact Finset.sum_congr rfl fun i _ => hg i⟩

/-- A nonnegative real distributes over a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A real distributes over a sum of reals, with either factor first. -/
theorem sum_mul_fin {ι : Type} (s : Finset ι) {f : ι → EReal} {c : EReal} (hf : ∀ i, Fin' (f i)) (hc : Fin' c) :
    (∑ i ∈ s, f i) * c = ∑ i ∈ s, f i * c := by
  obtain ⟨c, rfl⟩ := hc
  choose g hg using hf
  simp only [hg, ← EReal.coe_mul, sum_coe, Finset.sum_mul]

/-- The largest of one or more reals is real. -/
theorem fold_max_fin {n : ℕ} (hn : 0 < n) (s : Fin n → EReal) (hs : ∀ k, Fin' (s k)) :
    Fin' (Finset.univ.fold max ⊥ s) := by
  classical
  have key : ∀ t : Finset (Fin n), t = ∅ ∨ Fin' (t.fold max ⊥ s) := fun t => by
    induction t using Finset.induction_on with
    | empty => exact .inl rfl
    | insert a t ha ih =>
      right
      rw [Finset.fold_insert ha]
      obtain ⟨x, hx⟩ := hs a
      rcases ih with rfl | ⟨y, hy⟩
      · exact ⟨x, by rw [hx, Finset.fold_empty]; exact max_eq_left bot_le⟩
      · exact ⟨max x y, by rw [hx, hy]; exact (EReal.coe_strictMono.monotone.map_max).symm⟩
  rcases key Finset.univ with h | h
  · exact absurd (Finset.mem_univ (⟨0, hn⟩ : Fin n)) (by rw [h]; exact Finset.notMem_empty _)
  · exact h

/-- The average of the values `v` under the weights `exp s`. -/
def avg {n : ℕ} (s v : Fin n → EReal) : EReal := Ideal.div (∑ k, Ideal.exp (s k) * v k) (∑ k, Ideal.exp (s k))

/-- The larger of a running maximum and a chunk's. -/
def mx {n : ℕ} (m : EReal) (s : Fin n → EReal) : EReal := max m (Finset.univ.fold max ⊥ s)

/-- The running sum of weights after a chunk. -/
def stepL {n : ℕ} (l m m' : EReal) (s : Fin n → EReal) : EReal := l * Ideal.exp (m - m') + ∑ k, Ideal.exp (s k - m')

/-- The running weighted sum of values after a chunk. -/
def stepO {n : ℕ} (o m m' : EReal) (s v : Fin n → EReal) : EReal := o * Ideal.exp (m - m') + ∑ k, v k * Ideal.exp (s k - m')

/-- The average taken in two chunks under a running maximum. -/
def online {n : ℕ} (s0 s1 v0 v1 : Fin n → EReal) : EReal :=
  Ideal.div (stepO (stepO 0 ⊥ (mx ⊥ s0) s0 v0) (mx ⊥ s0) (mx (mx ⊥ s0) s1) s1 v1)
    (stepL (stepL 0 ⊥ (mx ⊥ s0) s0) (mx ⊥ s0) (mx (mx ⊥ s0) s1) s1)

/-- The two averages agree where the scores are real. -/
theorem online_eq {n : ℕ} (hn : 0 < n) (s0 s1 v0 v1 : Fin n → EReal) (h0 : ∀ k, Fin' (s0 k)) (h1 : ∀ k, Fin' (s1 k)) :
    online s0 s1 v0 v1 = Ideal.div (∑ k, Ideal.exp (s0 k) * v0 k + ∑ k, Ideal.exp (s1 k) * v1 k)
      (∑ k, Ideal.exp (s0 k) + ∑ k, Ideal.exp (s1 k)) := by
  obtain ⟨a, ha⟩ : Fin' (mx ⊥ s0) := by
    obtain ⟨x, hx⟩ := fold_max_fin hn s0 h0
    exact ⟨x, by rw [mx, hx]; exact max_eq_right bot_le⟩
  obtain ⟨b, hb⟩ : Fin' (mx (mx ⊥ s0) s1) := by
    obtain ⟨x, hx⟩ := fold_max_fin hn s1 h1
    exact ⟨max a x, by rw [ha, mx, hx]; exact (EReal.coe_strictMono.monotone.map_max).symm⟩
  choose r0 hr0 using h0
  choose r1 hr1 using h1
  have e0 : ∀ k, Ideal.exp (s0 k - (a : EReal)) = ((Real.exp (r0 k) * Real.exp (-a) : ℝ) : EReal) := fun k => by
    rw [hr0, ← EReal.coe_sub, Ideal.exp_coe, sub_eq_add_neg, Real.exp_add]
  have e1 : ∀ k, Ideal.exp (s1 k - (b : EReal)) = ((Real.exp (r1 k) * Real.exp (-b) : ℝ) : EReal) := fun k => by
    rw [hr1, ← EReal.coe_sub, Ideal.exp_coe, sub_eq_add_neg, Real.exp_add]
  have f0 : ∀ k, Ideal.exp (s0 k) = (Real.exp (r0 k) : EReal) := fun k => by rw [hr0, Ideal.exp_coe]
  have f1 : ∀ k, Ideal.exp (s1 k) = (Real.exp (r1 k) : EReal) := fun k => by rw [hr1, Ideal.exp_coe]
  have eab : Ideal.exp ((a : EReal) - (b : EReal)) = ((Real.exp a * Real.exp (-b) : ℝ) : EReal) := by
    rw [← EReal.coe_sub, Ideal.exp_coe, sub_eq_add_neg, Real.exp_add]
  have hc : (0 : ℝ) ≤ Real.exp (-b) := (Real.exp_pos _).le
  have haa : Real.exp (-a) * (Real.exp a * Real.exp (-b)) = Real.exp (-b) := by
    rw [← mul_assoc, ← Real.exp_add, neg_add_cancel, Real.exp_zero, one_mul]
  have hN : stepO (stepO 0 ⊥ (mx ⊥ s0) s0 v0) (mx ⊥ s0) (mx (mx ⊥ s0) s1) s1 v1
      = (∑ k, Ideal.exp (s0 k) * v0 k + ∑ k, Ideal.exp (s1 k) * v1 k) * ((Real.exp (-b) : ℝ) : EReal) := by
    rw [EReal.right_distrib_of_nonneg_of_ne_top (EReal.coe_nonneg.mpr hc) (EReal.coe_ne_top _), sum_mul_coe _ _ hc, sum_mul_coe _ _ hc]
    unfold stepO
    rw [hb, ha, zero_mul, zero_add, eab, sum_mul_coe _ _ (mul_nonneg (Real.exp_pos _).le hc)]
    refine congrArg₂ (· + ·) (Finset.sum_congr rfl fun k _ => ?_) (Finset.sum_congr rfl fun k _ => ?_)
    · rw [e0, f0, mul_comm (v0 k), mul_right_comm, mul_right_comm _ (v0 k), ← EReal.coe_mul, ← EReal.coe_mul, mul_assoc, haa]
    · rw [e1, f1, mul_comm (v1 k), mul_right_comm, ← EReal.coe_mul]
  have hD : stepL (stepL 0 ⊥ (mx ⊥ s0) s0) (mx ⊥ s0) (mx (mx ⊥ s0) s1) s1
      = (((∑ k, Real.exp (r0 k) + ∑ k, Real.exp (r1 k)) * Real.exp (-b) : ℝ) : EReal) := by
    unfold stepL
    rw [hb, ha, zero_mul, zero_add, eab]
    simp only [e0, e1, sum_coe, ← EReal.coe_mul, ← EReal.coe_add]
    refine congrArg _ ?_
    rw [← Finset.sum_mul, ← Finset.sum_mul, mul_assoc, haa, add_mul]
  have hD' : ∑ k, Ideal.exp (s0 k) + ∑ k, Ideal.exp (s1 k) = ((∑ k, Real.exp (r0 k) + ∑ k, Real.exp (r1 k) : ℝ) : EReal) := by
    simp only [f0, f1, sum_coe, ← EReal.coe_add]
  have pos : 0 < ∑ k, Real.exp (r0 k) + ∑ k, Real.exp (r1 k) :=
    add_pos_of_pos_of_nonneg (Finset.sum_pos (fun k _ => Real.exp_pos _) ⟨⟨0, hn⟩, Finset.mem_univ _⟩)
      (Finset.sum_nonneg fun k _ => (Real.exp_pos _).le)
  rw [online, hN, hD, hD', Ideal.div_coe (mul_pos pos (Real.exp_pos _)).ne', Ideal.div_coe pos.ne', mul_assoc, ← EReal.coe_mul]
  refine congrArg _ (congrArg _ ?_)
  have := (Real.exp_pos (-b)).ne'
  field_simp

end Cert.Soft

end
-- ==== Proof.Spec.lean ====
/-
Grouped-query attention through its output weights, as one formula of the five arguments.
-/
module

public import proofs.«01_k».proof.Proof.Soft
public import Idealize.ShloMosaic.Lib.Pointwise

@[expose] public section

noncomputable section

namespace Cert.Spec

open Idealize.ShloMosaic
open scoped BigOperators

/-- The scale of the scores. -/
abbrev scale : EReal := Ideal.ofBits .f32 0x3DB504F3#32

/-- Block `c`'s place `n` among the 4096 columns of the heads. -/
def col (c : Fin 4) (n : Fin 1024) : Fin 4096 := ⟨c.val * 1024 + n.val, by omega⟩

/-- The scale is a real number. -/
theorem scale_fin : Soft.Fin' scale := by
  unfold scale Ideal.ofBits Ideal.ieee
  exact ⟨_, rfl⟩

variable (x : (⟨3, ![1, 512, 1024]⟩ : Shape).Idx → EReal) (wq : (⟨2, ![1024, 4096]⟩ : Shape).Idx → EReal)
  (wo : (⟨2, ![4096, 1024]⟩ : Shape).Idx → EReal) (k v : (⟨4, ![1, 2048, 8, 128]⟩ : Shape).Idx → EReal)

/-- The score of token `i` against key `j` in query head `h`. -/
def score (h : Fin 32) (i : Fin 512) (j : Fin 2048) : EReal :=
  ∑ d : Fin 128, (∑ e : Fin 1024, x (ix3 0 i e) * wq (ix2 e ⟨h.val * 128 + d.val, by omega⟩)) * scale * k (ix4 0 j ⟨h.val / 4, by omega⟩ d)

/-- Query head `h`'s average of the values. -/
def head (h : Fin 32) (i : Fin 512) (d : Fin 128) : EReal :=
  Soft.avg (score x wq k h i) fun j : Fin 2048 => v (ix4 0 j ⟨h.val / 4, by omega⟩ d)

/-- The heads through the output weights. -/
def out (i : Fin 512) (n : Fin 1024) : EReal :=
  ∑ t : Fin 4096, head x wq k v ⟨t.val / 128, by omega⟩ i ⟨t.val % 128, by omega⟩ * wo (ix2 t n)

/-- A sum over `a + b` indices is the sum over the first `a` and the sum over the other `b`. -/
theorem sum_split {a b n : ℕ} (h : a + b = n) (f : Fin n → EReal) :
    ∑ i, f i = ∑ i : Fin a, f ⟨i.val, by omega⟩ + ∑ i : Fin b, f ⟨a + i.val, by omega⟩ := by
  subst h; exact Fin.sum_univ_add f

/-- A sum over `a * b` indices, in `a` runs of `b`. -/
theorem sum_runs {a b n : ℕ} (h : a * b = n) (f : Fin n → EReal) :
    ∑ i, f i = ∑ e : Fin a, ∑ t : Fin b, f ⟨e.val * b + t.val, by
      have := Nat.mul_le_mul_right b (Nat.succ_le_of_lt e.isLt); have := t.isLt; rw [Nat.succ_mul] at *; omega⟩ := by
  subst h
  rw [← Fintype.sum_prod_type', ← Fintype.sum_equiv finProdFinEquiv (fun p => f (finProdFinEquiv p)) f fun _ => rfl]
  refine Fintype.sum_congr _ _ fun p => congrArg f (Fin.ext ?_)
  show p.2.val + b * p.1.val = p.1.val * b + p.2.val
  rw [Nat.mul_comm, Nat.add_comm]

/-- The average in two halves. -/
theorem avg_split (s v : Fin 2048 → EReal) : Soft.avg s v
    = Ideal.div (∑ j : Fin 1024, Ideal.exp (s ⟨j.val, by omega⟩) * v ⟨j.val, by omega⟩ + ∑ j : Fin 1024, Ideal.exp (s ⟨1024 + j.val, by omega⟩) * v ⟨1024 + j.val, by omega⟩)
      (∑ j : Fin 1024, Ideal.exp (s ⟨j.val, by omega⟩) + ∑ j : Fin 1024, Ideal.exp (s ⟨1024 + j.val, by omega⟩)) := by
  rw [Soft.avg, sum_split (a := 1024) (b := 1024) rfl fun j => Ideal.exp (s j) * v j, sum_split (a := 1024) (b := 1024) rfl fun j => Ideal.exp (s j)]

variable {x wq k}

/-- Every query of real arguments is real. -/
theorem query_fin (hx : ∀ y, Soft.Fin' (x y)) (hq : ∀ y, Soft.Fin' (wq y)) (i : Fin 512) (n : Fin 4096) :
    Soft.Fin' (∑ e : Fin 1024, x (ix3 0 i e) * wq (ix2 e n)) := Soft.fin_sum _ fun _ => Soft.fin_mul (hx _) (hq _)

/-- Every score of real arguments is real, -/
theorem score_fin (hx : ∀ y, Soft.Fin' (x y)) (hq : ∀ y, Soft.Fin' (wq y)) (hk : ∀ y, Soft.Fin' (k y)) (h : Fin 32) (i : Fin 512) (j : Fin 2048) :
    Soft.Fin' (score x wq k h i j) :=
  Soft.fin_sum _ fun _ => Soft.fin_mul (Soft.fin_mul (query_fin hx hq _ _) scale_fin) (hk _)

/-- and may be scaled after the sum over the columns. -/
theorem score_eq (hx : ∀ y, Soft.Fin' (x y)) (hq : ∀ y, Soft.Fin' (wq y)) (hk : ∀ y, Soft.Fin' (k y)) (h : Fin 32) (i : Fin 512) (j : Fin 2048) :
    (∑ d : Fin 128, (∑ e : Fin 1024, x (ix3 0 i e) * wq (ix2 e ⟨h.val * 128 + d.val, by omega⟩)) * k (ix4 0 j ⟨h.val / 4, by omega⟩ d)) * scale
      = score x wq k h i j := by
  rw [Soft.sum_mul_fin _ (fun d => Soft.fin_mul (query_fin hx hq _ _) (hk _)) scale_fin]
  exact Finset.sum_congr rfl fun d _ => mul_right_comm _ _ _

end Cert.Spec

end
-- ==== Proof.Ref.lean ====
/-
The reference's result element by element: its stages named, and each read at an index.
-/
module

public import proofs.«01_k».proof.Proof.Gen.ReferenceIdeal
public import proofs.«01_k».proof.Proof.Gen.ReferenceIdeal.Run
public import proofs.«01_k».proof.Proof.Spec
public import Idealize.ShloMosaic.Lib.Pointwise

@[expose] public section

noncomputable section

namespace Cert.ReferenceIdeal.Attn

open Cert.ReferenceIdeal Cert.ReferenceIdeal.Gen Cert.ReferenceIdeal.Value
open Idealize.ShloMosaic Idealize.ShloMosaic.TcCoe

/-! ## The stages -/

/-- The queries, one row of 128 numbers per token and head. -/
def rQ (x : FVec Ideal S1x512x1024 .f32) (w : FVec Ideal S1024x4096 .f32) : FVec Ideal S1x512x32x128 .f32 :=
  shapeCast S1x512x32x128 (Host.dotGeneral dot_S1x512x1024_S1024x4096_S1x512x4096_2_0_01_1_n_n none x w) shapeCasts_S1x512x4096_S1x512x32x128

/-- The keys or the values, each of the eight heads repeated for four query heads. -/
def rK (k : FVec Ideal S1x2048x8x128 .f32) : FVec Ideal S1x2048x32x128 .f32 :=
  shapeCast S1x2048x32x128 (broadcastInDim S1x2048x8x4x128 ![0, 1, 2, 4] bcast_S1x2048x8x128_S1x2048x8x4x128_0_1_2_4 k)
    shapeCasts_S1x2048x8x4x128_S1x2048x32x128

/-- The first chunk of the keys or the values. -/
def rLo (k : FVec Ideal S1x2048x32x128 .f32) : FVec Ideal S1x1024x32x128 .f32 :=
  extractStridedSlice S1x1024x32x128 ![0, 0, 0, 0] k slices_S1x2048x32x128_S1x1024x32x128_0_0_0_0
/-- The second. -/
def rHi (k : FVec Ideal S1x2048x32x128 .f32) : FVec Ideal S1x1024x32x128 .f32 :=
  extractStridedSlice S1x1024x32x128 ![0, 1024, 0, 0] k slices_S1x2048x32x128_S1x1024x32x128_0_1024_0_0

/-- A chunk's scores. -/
def rS (q : FVec Ideal S1x512x32x128 .f32) (k : FVec Ideal S1x1024x32x128 .f32) : FVec Ideal S1x32x512x1024 .f32 :=
  mulf (Host.dotGeneral dot_S1x512x32x128_S1x1024x32x128_S1x32x512x1024_3_3_1_1_02_02 none q k)
    (broadcastInDim S1x32x512x1024 ![] bcast_S_S1x32x512x1024 (constant S_ .f32 0x3DB504F3#32))

/-- The running maximum after a chunk. -/
def rM (m : FVec Ideal S1x32x512x1 .f32) (s : FVec Ideal S1x32x512x1024 .f32) : FVec Ideal S1x32x512x1 .f32 :=
  maximumf m (broadcastInDim S1x32x512x1 ![0, 1, 2] bcast_S1x32x512_S1x32x512x1_0_1_2
    (Host.reduce FloatOps.maximumf s (constant S_ .f32 0xFF800000#32) reducesTo_S1x32x512x1024_S1x32x512_d3 h_S_))

/-- The factor that brings the sums so far to the new maximum. -/
def rA (m n : FVec Ideal S1x32x512x1 .f32) : FVec Ideal S1x32x512x1 .f32 := Host.exp (subf m n)

/-- A chunk's weights. -/
def rP (s : FVec Ideal S1x32x512x1024 .f32) (n : FVec Ideal S1x32x512x1 .f32) : FVec Ideal S1x32x512x1024 .f32 :=
  Host.exp (subf s (broadcastInDim S1x32x512x1024 ![0, 1, 2, 3] bcast_S1x32x512x1_S1x32x512x1024_0_1_2_3 n))

/-- The running sum of weights. -/
def rL (l a : FVec Ideal S1x32x512x1 .f32) (p : FVec Ideal S1x32x512x1024 .f32) : FVec Ideal S1x32x512x1 .f32 :=
  addf (mulf l a) (broadcastInDim S1x32x512x1 ![0, 1, 2] bcast_S1x32x512_S1x32x512x1_0_1_2
    (Host.reduceAdd p (constant S_ .f32 0x00000000#32) reducesTo_S1x32x512x1024_S1x32x512_d3 h_S_))

/-- A number per row and head, repeated along the head's 128 numbers. -/
def rT (a : FVec Ideal S1x32x512x1 .f32) : FVec Ideal S1x512x32x128 .f32 :=
  broadcastInDim S1x512x32x128 ![0, 1, 2, 3] bcast_S1x512x32x1_S1x512x32x128_0_1_2_3
    (transpose S1x512x32x1 [0, 2, 1, 3] a transposes_S1x32x512x1_S1x512x32x1_0_2_1_3)

/-- The running weighted sum of values. -/
def rO (o : FVec Ideal S1x512x32x128 .f32) (a : FVec Ideal S1x32x512x1 .f32) (v : FVec Ideal S1x1024x32x128 .f32)
    (p : FVec Ideal S1x32x512x1024 .f32) : FVec Ideal S1x512x32x128 .f32 :=
  addf (mulf o (rT a)) (transpose S1x512x32x128 [0, 3, 1, 2]
    (Host.dotGeneral dot_S1x1024x32x128_S1x32x512x1024_S1x32x128x512_1_3_3_2_02_01 none v p) transposes_S1x32x128x512_S1x512x32x128_0_3_1_2)

/-- The start: maximum, sum of weights, weighted sum. -/
def rM0 : FVec Ideal S1x32x512x1 .f32 := broadcastInDim S1x32x512x1 ![] bcast_S_S1x32x512x1 (constant S_ .f32 0xFF800000#32)
def rL0 : FVec Ideal S1x32x512x1 .f32 := broadcastInDim S1x32x512x1 ![] bcast_S_S1x32x512x1 (constant S_ .f32 0x00000000#32)
def rO0 : FVec Ideal S1x512x32x128 .f32 := broadcastInDim S1x512x32x128 ![] bcast_S_S1x512x32x128 (constant S_ .f32 0x00000000#32)

/-- The two chunks. -/
def rAtt (s0 s1 : FVec Ideal S1x32x512x1024 .f32) (v0 v1 : FVec Ideal S1x1024x32x128 .f32) : FVec Ideal S1x512x32x128 .f32 :=
  Host.divf
    (rO (rO rO0 (rA rM0 (rM rM0 s0)) v0 (rP s0 (rM rM0 s0))) (rA (rM rM0 s0) (rM (rM rM0 s0) s1)) v1 (rP s1 (rM (rM rM0 s0) s1)))
    (rT (rL (rL rL0 (rA rM0 (rM rM0 s0)) (rP s0 (rM rM0 s0))) (rA (rM rM0 s0) (rM (rM rM0 s0) s1)) (rP s1 (rM (rM rM0 s0) s1))))

/-- The projection. -/
def rOut (h : FVec Ideal S1x512x32x128 .f32) (w : FVec Ideal S4096x1024 .f32) : FVec Ideal S1x512x1024 .f32 :=
  Host.dotGeneral dot_S1x512x4096_S4096x1024_S1x512x1024_2_0_01_1_n_n none (shapeCast S1x512x4096 h shapeCasts_S1x512x32x128_S1x512x4096) w

/-- The reference of its five arguments. -/
def rAll (x : FVec Ideal S1x512x1024 .f32) (wq : FVec Ideal S1024x4096 .f32) (wo : FVec Ideal S4096x1024 .f32)
    (k v : FVec Ideal S1x2048x8x128 .f32) : FVec Ideal S1x512x1024 .f32 :=
  rOut (rAtt (rS (rQ x wq) (rLo (rK k))) (rS (rQ x wq) (rHi (rK k))) (rLo (rK v)) (rHi (rK v))) wo

set_option maxRecDepth 8192 in
/-- The run's result is the stages' composition. -/
theorem res_eq (m : (ℓ : Loc nD τ sig) → Buf (Elt Ideal) ℓ) (c : Dev nD) :
    res_main_v59 m c = rAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at an index -/

/-- The word of minus infinity is the least extended real. -/
theorem ofBits_bot : Ideal.ofBits .f32 0xFF800000#32 = ⊥ := by simp [Ideal.ofBits, Ideal.ieee]

/-- A maximum over the last axis, at an index: at any sizes. -/
theorem reduce_max_at {n0 n1 n2 n3 : ℕ} (s : FVec Ideal ⟨4, ![n0, n1, n2, n3]⟩ .f32) (z : FVec Ideal S_ .f32)
    (h : (⟨4, ![n0, n1, n2, n3]⟩ : Shape).ReducesTo [3] ⟨3, ![n0, n1, n2]⟩) (hu : 0 < S_.numel)
    (hz : z (Shape.Idx.first hu) = ⊥) (a : Fin n0) (b : Fin n1) (c : Fin n2) :
    Host.reduce FloatOps.maximumf s z h hu (ix3 a b c) = Finset.univ.fold max ⊥ (fun k => s (ix4 a b c k)) := by
  rw [← hz, Host.reduce_eq_fold, h.fold_fiber_r4_a3]
  rfl

/-- The queries at an index: a row of the input against a column of the weights. -/
theorem rQ_at (x : FVec Ideal S1x512x1024 .f32) (w : FVec Ideal S1024x4096 .f32) (i : Fin 512) (h : Fin 32) (d : Fin 128) :
    rQ x w (ix4 0 i h d) = ∑ e : Fin 1024, x (ix3 0 i e) * w (ix2 e ⟨h.val * 128 + d.val, by omega⟩) := by
  pointwise [rQ]

/-- The repeated keys at an index: head `h` reads head `h / 4`. -/
theorem rK_at (k : FVec Ideal S1x2048x8x128 .f32) (j : Fin 2048) (h : Fin 32) (d : Fin 128) :
    rK k (ix4 0 j h d) = k (ix4 0 j ⟨h.val / 4, by omega⟩ d) := by
  pointwise [rK]

/-- The first chunk at an index. -/
theorem rLo_at (k : FVec Ideal S1x2048x32x128 .f32) (j : Fin 1024) (h : Fin 32) (d : Fin 128) :
    rLo k (ix4 0 j h d) = k (ix4 0 ⟨j.val, by omega⟩ h d) := by
  pointwise [rLo]

/-- The second chunk at an index. -/
theorem rHi_at (k : FVec Ideal S1x2048x32x128 .f32) (j : Fin 1024) (h : Fin 32) (d : Fin 128) :
    rHi k (ix4 0 j h d) = k (ix4 0 ⟨1024 + j.val, by omega⟩ h d) := by
  pointwise [rHi]

/-- A chunk's scores at an index. -/
theorem rS_at (q : FVec Ideal S1x512x32x128 .f32) (k : FVec Ideal S1x1024x32x128 .f32) (h : Fin 32) (i : Fin 512) (j : Fin 1024) :
    rS q k (ix4 0 h i j) = (∑ d : Fin 128, q (ix4 0 i h d) * k (ix4 0 j h d)) * Ideal.ofBits .f32 0x3DB504F3#32 := by
  pointwise [rS]

/-- The maximum starts from the least extended real. -/
theorem first_bot : (constant (F := Ideal) S_ .f32 0xFF800000#32 : FVec Ideal S_ .f32) (Shape.Idx.first h_S_) = (⊥ : EReal) := by
  rw [← ofBits_bot]; rfl

/-- A chunk's maximum at an index. -/
theorem chunk_max_at (s : FVec Ideal S1x32x512x1024 .f32) (h : Fin 32) (i : Fin 512) :
    Host.reduce FloatOps.maximumf s (constant S_ .f32 0xFF800000#32) reducesTo_S1x32x512x1024_S1x32x512_d3 h_S_ (ix3 0 h i)
      = Finset.univ.fold max ⊥ (fun k : Fin 1024 => s (ix4 0 h i k)) :=
  reduce_max_at s _ reducesTo_S1x32x512x1024_S1x32x512_d3 h_S_ first_bot 0 h i

/-- The greater of the maximum so far and a chunk's, at an index. -/
theorem max_row_at (t : FVec Ideal S1x32x512 .f32) (m : FVec Ideal S1x32x512x1 .f32) (h : Fin 32) (i : Fin 512) :
    maximumf m (broadcastInDim S1x32x512x1 ![0, 1, 2] bcast_S1x32x512_S1x32x512x1_0_1_2 t) (ix4 0 h i 0)
      = max (m (ix4 0 h i 0)) (t (ix3 0 h i)) := by
  pointwise

/-- The running maximum at an index. -/
theorem rM_at (m : FVec Ideal S1x32x512x1 .f32) (s : FVec Ideal S1x32x512x1024 .f32) (h : Fin 32) (i : Fin 512) :
    rM m s (ix4 0 h i 0) = Soft.mx (m (ix4 0 h i 0)) (fun j : Fin 1024 => s (ix4 0 h i j)) := by
  unfold rM Soft.mx
  rw [max_row_at, chunk_max_at]

/-- The correcting factor at an index. -/
theorem rA_at (m n : FVec Ideal S1x32x512x1 .f32) (h : Fin 32) (i : Fin 512) :
    rA m n (ix4 0 h i 0) = Ideal.exp (m (ix4 0 h i 0) - n (ix4 0 h i 0)) := by
  pointwise [rA]

/-- A chunk's weights at an index. -/
theorem rP_at (s : FVec Ideal S1x32x512x1024 .f32) (n : FVec Ideal S1x32x512x1 .f32) (h : Fin 32) (i : Fin 512) (j : Fin 1024) :
    rP s n (ix4 0 h i j) = Ideal.exp (s (ix4 0 h i j) - n (ix4 0 h i 0)) := by
  pointwise [rP]

/-- The running sum of weights at an index. -/
theorem rL_at (l a : FVec Ideal S1x32x512x1 .f32) (p : FVec Ideal S1x32x512x1024 .f32) (h : Fin 32) (i : Fin 512) :
    rL l a p (ix4 0 h i 0) = l (ix4 0 h i 0) * a (ix4 0 h i 0) + ∑ j : Fin 1024, p (ix4 0 h i j) := by
  pointwise [rL]

/-- The correcting factor, transposed to the sums of values, at an index. -/
theorem rT_at (a : FVec Ideal S1x32x512x1 .f32) (h : Fin 32) (i : Fin 512) (d : Fin 128) :
    rT a (ix4 0 i h d) = a (ix4 0 h i 0) := by
  pointwise [rT]

/-- The running sum of weighted values at an index. -/
theorem rO_at (o : FVec Ideal S1x512x32x128 .f32) (a : FVec Ideal S1x32x512x1 .f32) (v : FVec Ideal S1x1024x32x128 .f32)
    (p : FVec Ideal S1x32x512x1024 .f32) (h : Fin 32) (i : Fin 512) (d : Fin 128) :
    rO o a v p (ix4 0 i h d) = o (ix4 0 i h d) * a (ix4 0 h i 0) + ∑ j : Fin 1024, v (ix4 0 j h d) * p (ix4 0 h i j) := by
  rw [← rT_at a h i d]
  pointwise [rO]

/-- The maximum before any chunk. -/
theorem rM0_at (h : Fin 32) (i : Fin 512) : rM0 (ix4 0 h i 0) = ⊥ := by
  rw [← ofBits_bot]; pointwise [rM0]
/-- The sum of weights before any chunk. -/
theorem rL0_at (h : Fin 32) (i : Fin 512) : rL0 (ix4 0 h i 0) = 0 := by pointwise [rL0]
/-- The sum of weighted values before any chunk. -/
theorem rO0_at (i : Fin 512) (h : Fin 32) (d : Fin 128) : rO0 (ix4 0 i h d) = 0 := by pointwise [rO0]

/-- One number of the heads' result: the average in two chunks. -/
theorem rAtt_at (s0 s1 : FVec Ideal S1x32x512x1024 .f32) (v0 v1 : FVec Ideal S1x1024x32x128 .f32) (i : Fin 512) (h : Fin 32) (d : Fin 128) :
    rAtt s0 s1 v0 v1 (ix4 0 i h d) = Soft.online (fun j : Fin 1024 => s0 (ix4 0 h i j)) (fun j => s1 (ix4 0 h i j))
      (fun j => v0 (ix4 0 j h d)) (fun j => v1 (ix4 0 j h d)) := by
  have e : ∀ o l, Host.divf o (rT l) (ix4 0 i h d) = Ideal.div (o (ix4 0 i h d)) (l (ix4 0 h i 0)) := fun o l => by
    rw [← rT_at l h i d]; pointwise
  rw [rAtt, e]
  simp only [rO_at, rL_at, rA_at, rP_at, rM_at, rM0_at, rL0_at, rO0_at]
  rfl

/-- The heads through the output weights, at an index. -/
theorem rOut_at (h : FVec Ideal S1x512x32x128 .f32) (w : FVec Ideal S4096x1024 .f32) (i : Fin 512) (n : Fin 1024) :
    rOut h w (ix3 0 i n) = ∑ t : Fin 4096, h (ix4 0 i ⟨t.val / 128, by omega⟩ ⟨t.val % 128, by omega⟩) * w (ix2 t n) := by
  pointwise [rOut]

section
variable (x : FVec Ideal S1x512x1024 .f32) (wq : FVec Ideal S1024x4096 .f32) (wo : FVec Ideal S4096x1024 .f32)
  (k v : FVec Ideal S1x2048x8x128 .f32) (hx : ∀ y, Soft.Fin' (x y)) (hq : ∀ y, Soft.Fin' (wq y)) (hk : ∀ y, Soft.Fin' (k y))
include hx hq hk

/-- The scores against the first keys, of real inputs, query weights and keys, -/
theorem score_lo (h : Fin 32) (i : Fin 512) (j : Fin 1024) :
    rS (rQ x wq) (rLo (rK k)) (ix4 0 h i j) = Spec.score x wq k h i ⟨j.val, by omega⟩ := by
  rw [rS_at, ← Spec.score_eq hx hq hk]
  refine congrArg (· * Spec.scale) (Finset.sum_congr rfl fun d _ => ?_)
  rw [rLo_at, rK_at, rQ_at]

/-- and against the others. -/
theorem score_hi (h : Fin 32) (i : Fin 512) (j : Fin 1024) :
    rS (rQ x wq) (rHi (rK k)) (ix4 0 h i j) = Spec.score x wq k h i ⟨1024 + j.val, by omega⟩ := by
  rw [rS_at, ← Spec.score_eq hx hq hk]
  refine congrArg (· * Spec.scale) (Finset.sum_congr rfl fun d _ => ?_)
  rw [rHi_at, rK_at, rQ_at]

/-- The heads' averages. -/
theorem head_eq (h : Fin 32) (i : Fin 512) (d : Fin 128) :
    rAtt (rS (rQ x wq) (rLo (rK k))) (rS (rQ x wq) (rHi (rK k))) (rLo (rK v)) (rHi (rK v)) (ix4 0 i h d) = Spec.head x wq k v h i d := by
  rw [rAtt_at, Spec.head, Spec.avg_split]
  simp only [score_lo x wq k hx hq hk, score_hi x wq k hx hq hk, rLo_at, rHi_at, rK_at]
  exact Soft.online_eq (by decide) _ _ _ _ (fun _ => Spec.score_fin hx hq hk _ _ _) (fun _ => Spec.score_fin hx hq hk _ _ _)

/-- The reference's result at an index. -/
theorem rAll_at (i : Fin 512) (n : Fin 1024) : rAll x wq wo k v (ix3 0 i n) = Spec.out x wq wo k v i n := by
  rw [rAll, rOut_at, Spec.out]
  exact Finset.sum_congr rfl fun t _ => congrArg (· * wo (ix2 t n)) (head_eq x wq k v hx hq hk _ i _)

end

end Cert.ReferenceIdeal.Attn

end
-- ==== Proof.Heads.lean ====
/-
One device's part of the result, element by element: eight heads' averages through its rows of the output weights.
-/
module

public import proofs.«01_k».proof.Proof.Proto
public import proofs.«01_k».proof.Proof.Soft
public import Idealize.ShloMosaic.Lib.Pointwise

@[expose] public section

noncomputable section

namespace Cert.KernelIdeal.Attn

open Cert.KernelIdeal Cert.KernelIdeal.Gen
open Idealize.ShloMosaic Idealize.ShloMosaic.TcCoe

/-- One head's average: the queries of 128 tokens against the 2048 keys and values of the head. -/
def hd (q : FVec Ideal S128x128 .bf16) (k v : FVec Ideal S2048x128 .bf16) : FVec Ideal S128x128 .f32 :=
  divf (matmul dot_S128x2048_S2048x128_S128x128_1_0_0_1_n_n none
      (truncf .bf16 (exp (matmul dot_S128x128_S2048x128_S128x2048_1_1_0_0_n_n none q k (constant S128x2048 .f32 0x00000000#32))) bitsLt_bf16_f32)
      v (constant S128x128 .f32 0x00000000#32))
    (broadcastTo S128x128 (shapeCast S128x1 (multiReduction .add [1] S128
      (exp (matmul dot_S128x128_S2048x128_S128x2048_1_1_0_0_n_n none q k (constant S128x2048 .f32 0x00000000#32)))
      0x00000000#32 reduces_S128x2048_S128 (.inl rfl) rfl) shapeCasts_S128_S128x1) broadcasts_S128x1_S128x128)

/-- Eight heads side by side, through the output weights. -/
def thru (wo : FVec Ideal S1024x1024 .bf16) (h0 h1 h2 h3 h4 h5 h6 h7 : FVec Ideal S128x128 .f32) : FVec Ideal S128x1024 .f32 :=
  matmul dot_S128x1024_S1024x1024_S128x1024_1_0_0_1_n_n none
    (truncf .bf16 (concatenate S128x1024 1 [⟨S128x128, h0⟩, ⟨S128x128, h1⟩, ⟨S128x128, h2⟩, ⟨S128x128, h3⟩, ⟨S128x128, h4⟩, ⟨S128x128, h5⟩, ⟨S128x128, h6⟩, ⟨S128x128, h7⟩]
      concatenates_S128x128_S128x128_S128x128_S128x128_S128x128_S128x128_S128x128_S128x128_S128x1024_d1) bitsLt_bf16_f32)
    wo (constant S128x1024 .f32 0x00000000#32)

/-- One head's block at an index is a weighted average of the values. -/
theorem hd_at (q : FVec Ideal S128x128 .bf16) (k v : FVec Ideal S2048x128 .bf16) (i d : Fin 128) :
    hd q k v (ix2 i d) = Soft.avg (fun j : Fin 2048 => ∑ e : Fin 128, q (ix2 i e) * k (ix2 j e)) (fun j => v (ix2 j d)) := by
  unfold Soft.avg
  pointwise [hd]

/-- The scaled queries at an index. -/
theorem pay1_at (x : Vec Ideal S1x512x1024 .f32) (w : Vec Ideal S1024x1024 .f32) (i : Fin 512) (n : Fin 1024) :
    k0_pay1 x w (ix2 i n) = (∑ e : Fin 1024, x (ix3 0 i e) * w (ix2 e n)) * Ideal.ofBits .f32 0x3DB504F3#32 := by
  pointwise [k0_pay1]

/-- The output weights are copied as they are. -/
theorem pay2_at (w : Vec Ideal S1024x1024 .f32) (i n : Fin 1024) : k0_pay2 w (ix2 i n) = w (ix2 i n) := by
  pointwise [k0_pay2]

/-- A head's keys or values, without the axis of extent one. -/
theorem pay3_at (w : Vec Ideal S1x2048x128 .f32) (j : Fin 2048) (d : Fin 128) : k0_pay3 w (ix2 j d) = w (ix3 0 j d) := by
  pointwise [k0_pay3]

/-- One number of a head: the tokens from row `r` on, the head's columns from `c` on. -/
def hav (q : FVec Ideal S512x1024 .bf16) (k v : FVec Ideal S2048x128 .bf16) (r c : ℕ) (hr : r + 128 ≤ 512) (hc : c + 128 ≤ 1024)
    (i d : Fin 128) : EReal :=
  Soft.avg (fun j : Fin 2048 => ∑ e : Fin 128, q (ix2 ⟨r + i.val, by omega⟩ ⟨c + e.val, by omega⟩) * k (ix2 j e)) (fun j => v (ix2 j d))

/-- The average depends on its places only through their numbers. -/
theorem hav_congr (q : FVec Ideal S512x1024 .bf16) (k v : Fin 2 → FVec Ideal S2048x128 .bf16) (r c c' : ℕ) (hr : r + 128 ≤ 512)
    (hc : c + 128 ≤ 1024) (hc' : c' + 128 ≤ 1024) (i d d' : Fin 128) (g g' : Fin 2) (ec : c = c') (eg : g.val = g'.val) (ed : d.val = d'.val) :
    hav q (k g) (v g) r c hr hc i d = hav q (k g') (v g') r c' hr hc' i d' := by
  obtain rfl := Fin.ext eg; obtain rfl := Fin.ext ed; subst ec; rfl

/-- One head's block, cut out of the queries, at an index. -/
theorem hd_slice_at (q : FVec Ideal S512x1024 .bf16) (k v : FVec Ideal S2048x128 .bf16) (r c : ℕ) (hr : r + 128 ≤ 512) (hc : c + 128 ≤ 1024)
    (hs : S512x1024.Slices ![r, c] S128x128) (i d : Fin 128) :
    hd (extractStridedSlice S128x128 ![r, c] q hs) k v (ix2 i d) = hav q k v r c hr hc i d := by
  have e : ∀ x : Fin 128, extractStridedSlice S128x128 ![r, c] q hs (ix2 i x) = q (ix2 ⟨r + i.val, by omega⟩ ⟨c + x.val, by omega⟩) := fun x => by
    pointwise
  rw [hd_at, hav]
  simp only [e]

/-- Eight heads side by side through the output weights, from each head's numbers. -/
theorem thru_sum (wo : FVec Ideal S1024x1024 .bf16) (h0 h1 h2 h3 h4 h5 h6 h7 : FVec Ideal S128x128 .f32) (i : Fin 128) (n : Fin 1024)
    (f : Fin 1024 → EReal) (e0 : ∀ d : Fin 128, h0 (ix2 i d) = f ⟨d.val, by omega⟩)
    (e1 : ∀ d : Fin 128, h1 (ix2 i d) = f ⟨128 + d.val, by omega⟩)
    (e2 : ∀ d : Fin 128, h2 (ix2 i d) = f ⟨256 + d.val, by omega⟩)
    (e3 : ∀ d : Fin 128, h3 (ix2 i d) = f ⟨384 + d.val, by omega⟩)
    (e4 : ∀ d : Fin 128, h4 (ix2 i d) = f ⟨512 + d.val, by omega⟩)
    (e5 : ∀ d : Fin 128, h5 (ix2 i d) = f ⟨640 + d.val, by omega⟩)
    (e6 : ∀ d : Fin 128, h6 (ix2 i d) = f ⟨768 + d.val, by omega⟩)
    (e7 : ∀ d : Fin 128, h7 (ix2 i d) = f ⟨896 + d.val, by omega⟩) :
    thru wo h0 h1 h2 h3 h4 h5 h6 h7 (ix2 i n) = ∑ t : Fin 1024, f t * wo (ix2 t n) := by
  pointwise [thru]
  refine Finset.sum_congr rfl fun t _ => congrArg (· * wo (ix2 t n)) ?_
  have ht := t.isLt
  by_cases c0 : t.val < 128
  · rw [dif_pos c0, e0]
  rw [dif_neg c0]
  by_cases c1 : t.val - 128 < 128
  · rw [dif_pos c1, e1]; exact congrArg f (Fin.ext (by dsimp only; omega))
  rw [dif_neg c1]
  by_cases c2 : t.val - 128 - 128 < 128
  · rw [dif_pos c2, e2]; exact congrArg f (Fin.ext (by dsimp only; omega))
  rw [dif_neg c2]
  by_cases c3 : t.val - 128 - 128 - 128 < 128
  · rw [dif_pos c3, e3]; exact congrArg f (Fin.ext (by dsimp only; omega))
  rw [dif_neg c3]
  by_cases c4 : t.val - 128 - 128 - 128 - 128 < 128
  · rw [dif_pos c4, e4]; exact congrArg f (Fin.ext (by dsimp only; omega))
  rw [dif_neg c4]
  by_cases c5 : t.val - 128 - 128 - 128 - 128 - 128 < 128
  · rw [dif_pos c5, e5]; exact congrArg f (Fin.ext (by dsimp only; omega))
  rw [dif_neg c5]
  by_cases c6 : t.val - 128 - 128 - 128 - 128 - 128 - 128 < 128
  · rw [dif_pos c6, e6]; exact congrArg f (Fin.ext (by dsimp only; omega))
  rw [dif_neg c6]
  rw [e7]; exact congrArg f (Fin.ext (by dsimp only; omega))

/-- Eight heads through the output weights, at an index. -/
theorem thru_at (q : FVec Ideal S512x1024 .bf16) (wo : FVec Ideal S1024x1024 .bf16) (k v : Fin 2 → FVec Ideal S2048x128 .bf16) (r : ℕ)
    (hr : r + 128 ≤ 512) (s0 : S512x1024.Slices ![r, 0] S128x128) (s1 : S512x1024.Slices ![r, 128] S128x128)
    (s2 : S512x1024.Slices ![r, 256] S128x128) (s3 : S512x1024.Slices ![r, 384] S128x128) (s4 : S512x1024.Slices ![r, 512] S128x128)
    (s5 : S512x1024.Slices ![r, 640] S128x128) (s6 : S512x1024.Slices ![r, 768] S128x128) (s7 : S512x1024.Slices ![r, 896] S128x128)
    (i : Fin 128) (n : Fin 1024) :
    thru wo (hd (extractStridedSlice S128x128 ![r, 0] q s0) (k 0) (v 0)) (hd (extractStridedSlice S128x128 ![r, 128] q s1) (k 0) (v 0))
      (hd (extractStridedSlice S128x128 ![r, 256] q s2) (k 0) (v 0)) (hd (extractStridedSlice S128x128 ![r, 384] q s3) (k 0) (v 0))
      (hd (extractStridedSlice S128x128 ![r, 512] q s4) (k 1) (v 1)) (hd (extractStridedSlice S128x128 ![r, 640] q s5) (k 1) (v 1))
      (hd (extractStridedSlice S128x128 ![r, 768] q s6) (k 1) (v 1)) (hd (extractStridedSlice S128x128 ![r, 896] q s7) (k 1) (v 1)) (ix2 i n)
      = ∑ t : Fin 1024, hav q (k ⟨t.val / 512, by omega⟩) (v ⟨t.val / 512, by omega⟩) r (128 * (t.val / 128)) hr (by omega) i
          ⟨t.val % 128, by omega⟩ * wo (ix2 t n) := by
  refine thru_sum wo _ _ _ _ _ _ _ _ i n (fun t => hav q (k ⟨t.val / 512, by omega⟩) (v ⟨t.val / 512, by omega⟩) r (128 * (t.val / 128)) hr
    (by omega) i ⟨t.val % 128, by omega⟩) (fun d => ?_) (fun d => ?_) (fun d => ?_) (fun d => ?_) (fun d => ?_) (fun d => ?_) (fun d => ?_) (fun d => ?_)
  · exact (hd_slice_at q (k 0) (v 0) r 0 hr (by omega) s0 i d).trans
      (hav_congr q k v r _ _ hr _ _ i _ _ 0 _ (by dsimp only; omega) (by show 0 = d.val / 512; omega) (by dsimp only; omega))
  · exact (hd_slice_at q (k 0) (v 0) r 128 hr (by omega) s1 i d).trans
      (hav_congr q k v r _ _ hr _ _ i _ _ 0 _ (by dsimp only; omega) (by show 0 = (128 + d.val) / 512; omega) (by dsimp only; omega))
  · exact (hd_slice_at q (k 0) (v 0) r 256 hr (by omega) s2 i d).trans
      (hav_congr q k v r _ _ hr _ _ i _ _ 0 _ (by dsimp only; omega) (by show 0 = (256 + d.val) / 512; omega) (by dsimp only; omega))
  · exact (hd_slice_at q (k 0) (v 0) r 384 hr (by omega) s3 i d).trans
      (hav_congr q k v r _ _ hr _ _ i _ _ 0 _ (by dsimp only; omega) (by show 0 = (384 + d.val) / 512; omega) (by dsimp only; omega))
  · exact (hd_slice_at q (k 1) (v 1) r 512 hr (by omega) s4 i d).trans
      (hav_congr q k v r _ _ hr _ _ i _ _ 1 _ (by dsimp only; omega) (by show 1 = (512 + d.val) / 512; omega) (by dsimp only; omega))
  · exact (hd_slice_at q (k 1) (v 1) r 640 hr (by omega) s5 i d).trans
      (hav_congr q k v r _ _ hr _ _ i _ _ 1 _ (by dsimp only; omega) (by show 1 = (640 + d.val) / 512; omega) (by dsimp only; omega))
  · exact (hd_slice_at q (k 1) (v 1) r 768 hr (by omega) s6 i d).trans
      (hav_congr q k v r _ _ hr _ _ i _ _ 1 _ (by dsimp only; omega) (by show 1 = (768 + d.val) / 512; omega) (by dsimp only; omega))
  · exact (hd_slice_at q (k 1) (v 1) r 896 hr (by omega) s7 i d).trans
      (hav_congr q k v r _ _ hr _ _ i _ _ 1 _ (by dsimp only; omega) (by show 1 = (896 + d.val) / 512; omega) (by dsimp only; omega))

variable (m : (ℓ : Loc nD τ sig) → Buf (Elt Ideal) ℓ) (ρ : Dev nD → PrngReg)

/-- Block 0 of a device's product as the heads' averages through the output weights. -/
theorem part_0 (c : Dev nD) : part m ρ c 0 = thru (ov m ρ c)
    (hd (extractStridedSlice S128x128 ![0, 0] (qv m ρ c) slices_S512x1024_o0_0_S128x128) (k0_pay3 (kval m c 0)) (k0_pay3 (vval m c 0)))
    (hd (extractStridedSlice S128x128 ![0, 128] (qv m ρ c) slices_S512x1024_o0_128_S128x128) (k0_pay3 (kval m c 0)) (k0_pay3 (vval m c 0)))
    (hd (extractStridedSlice S128x128 ![0, 256] (qv m ρ c) slices_S512x1024_o0_256_S128x128) (k0_pay3 (kval m c 0)) (k0_pay3 (vval m c 0)))
    (hd (extractStridedSlice S128x128 ![0, 384] (qv m ρ c) slices_S512x1024_o0_384_S128x128) (k0_pay3 (kval m c 0)) (k0_pay3 (vval m c 0)))
    (hd (extractStridedSlice S128x128 ![0, 512] (qv m ρ c) slices_S512x1024_o0_512_S128x128) (k0_pay3 (kval m c 1)) (k0_pay3 (vval m c 1)))
    (hd (extractStridedSlice S128x128 ![0, 640] (qv m ρ c) slices_S512x1024_o0_640_S128x128) (k0_pay3 (kval m c 1)) (k0_pay3 (vval m c 1)))
    (hd (extractStridedSlice S128x128 ![0, 768] (qv m ρ c) slices_S512x1024_o0_768_S128x128) (k0_pay3 (kval m c 1)) (k0_pay3 (vval m c 1)))
    (hd (extractStridedSlice S128x128 ![0, 896] (qv m ρ c) slices_S512x1024_o0_896_S128x128) (k0_pay3 (kval m c 1)) (k0_pay3 (vval m c 1))) := rfl

/-- Block 1 of a device's product as the heads' averages through the output weights. -/
theorem part_1 (c : Dev nD) : part m ρ c 1 = thru (ov m ρ c)
    (hd (extractStridedSlice S128x128 ![128, 0] (qv m ρ c) slices_S512x1024_o128_0_S128x128) (k0_pay3 (kval m c 0)) (k0_pay3 (vval m c 0)))
    (hd (extractStridedSlice S128x128 ![128, 128] (qv m ρ c) slices_S512x1024_o128_128_S128x128) (k0_pay3 (kval m c 0)) (k0_pay3 (vval m c 0)))
    (hd (extractStridedSlice S128x128 ![128, 256] (qv m ρ c) slices_S512x1024_o128_256_S128x128) (k0_pay3 (kval m c 0)) (k0_pay3 (vval m c 0)))
    (hd (extractStridedSlice S128x128 ![128, 384] (qv m ρ c) slices_S512x1024_o128_384_S128x128) (k0_pay3 (kval m c 0)) (k0_pay3 (vval m c 0)))
    (hd (extractStridedSlice S128x128 ![128, 512] (qv m ρ c) slices_S512x1024_o128_512_S128x128) (k0_pay3 (kval m c 1)) (k0_pay3 (vval m c 1)))
    (hd (extractStridedSlice S128x128 ![128, 640] (qv m ρ c) slices_S512x1024_o128_640_S128x128) (k0_pay3 (kval m c 1)) (k0_pay3 (vval m c 1)))
    (hd (extractStridedSlice S128x128 ![128, 768] (qv m ρ c) slices_S512x1024_o128_768_S128x128) (k0_pay3 (kval m c 1)) (k0_pay3 (vval m c 1)))
    (hd (extractStridedSlice S128x128 ![128, 896] (qv m ρ c) slices_S512x1024_o128_896_S128x128) (k0_pay3 (kval m c 1)) (k0_pay3 (vval m c 1))) := rfl

/-- Block 2 of a device's product as the heads' averages through the output weights. -/
theorem part_2 (c : Dev nD) : part m ρ c 2 = thru (ov m ρ c)
    (hd (extractStridedSlice S128x128 ![256, 0] (qv m ρ c) slices_S512x1024_o256_0_S128x128) (k0_pay3 (kval m c 0)) (k0_pay3 (vval m c 0)))
    (hd (extractStridedSlice S128x128 ![256, 128] (qv m ρ c) slices_S512x1024_o256_128_S128x128) (k0_pay3 (kval m c 0)) (k0_pay3 (vval m c 0)))
    (hd (extractStridedSlice S128x128 ![256, 256] (qv m ρ c) slices_S512x1024_o256_256_S128x128) (k0_pay3 (kval m c 0)) (k0_pay3 (vval m c 0)))
    (hd (extractStridedSlice S128x128 ![256, 384] (qv m ρ c) slices_S512x1024_o256_384_S128x128) (k0_pay3 (kval m c 0)) (k0_pay3 (vval m c 0)))
    (hd (extractStridedSlice S128x128 ![256, 512] (qv m ρ c) slices_S512x1024_o256_512_S128x128) (k0_pay3 (kval m c 1)) (k0_pay3 (vval m c 1)))
    (hd (extractStridedSlice S128x128 ![256, 640] (qv m ρ c) slices_S512x1024_o256_640_S128x128) (k0_pay3 (kval m c 1)) (k0_pay3 (vval m c 1)))
    (hd (extractStridedSlice S128x128 ![256, 768] (qv m ρ c) slices_S512x1024_o256_768_S128x128) (k0_pay3 (kval m c 1)) (k0_pay3 (vval m c 1)))
    (hd (extractStridedSlice S128x128 ![256, 896] (qv m ρ c) slices_S512x1024_o256_896_S128x128) (k0_pay3 (kval m c 1)) (k0_pay3 (vval m c 1))) := rfl

/-- Block 3 of a device's product as the heads' averages through the output weights. -/
theorem part_3 (c : Dev nD) : part m ρ c 3 = thru (ov m ρ c)
    (hd (extractStridedSlice S128x128 ![384, 0] (qv m ρ c) slices_S512x1024_o384_0_S128x128) (k0_pay3 (kval m c 0)) (k0_pay3 (vval m c 0)))
    (hd (extractStridedSlice S128x128 ![384, 128] (qv m ρ c) slices_S512x1024_o384_128_S128x128) (k0_pay3 (kval m c 0)) (k0_pay3 (vval m c 0)))
    (hd (extractStridedSlice S128x128 ![384, 256] (qv m ρ c) slices_S512x1024_o384_256_S128x128) (k0_pay3 (kval m c 0)) (k0_pay3 (vval m c 0)))
    (hd (extractStridedSlice S128x128 ![384, 384] (qv m ρ c) slices_S512x1024_o384_384_S128x128) (k0_pay3 (kval m c 0)) (k0_pay3 (vval m c 0)))
    (hd (extractStridedSlice S128x128 ![384, 512] (qv m ρ c) slices_S512x1024_o384_512_S128x128) (k0_pay3 (kval m c 1)) (k0_pay3 (vval m c 1)))
    (hd (extractStridedSlice S128x128 ![384, 640] (qv m ρ c) slices_S512x1024_o384_640_S128x128) (k0_pay3 (kval m c 1)) (k0_pay3 (vval m c 1)))
    (hd (extractStridedSlice S128x128 ![384, 768] (qv m ρ c) slices_S512x1024_o384_768_S128x128) (k0_pay3 (kval m c 1)) (k0_pay3 (vval m c 1)))
    (hd (extractStridedSlice S128x128 ![384, 896] (qv m ρ c) slices_S512x1024_o384_896_S128x128) (k0_pay3 (kval m c 1)) (k0_pay3 (vval m c 1))) := rfl

/-- One number of a device's part. -/
theorem part_at (c : Dev nD) (b : Fin 4) (i : Fin 128) (n : Fin 1024) :
    part m ρ c b (ix2 i n) = ∑ t : Fin 1024, hav (qv m ρ c) (k0_pay3 (kval m c ⟨t.val / 512, by omega⟩))
      (k0_pay3 (vval m c ⟨t.val / 512, by omega⟩)) (128 * b.val) (128 * (t.val / 128)) (by omega) (by omega) i ⟨t.val % 128, by omega⟩
        * ov m ρ c (ix2 t n) := by
  match b with
  | ⟨0, _⟩ =>
    exact (congrFun (part_0 m ρ c) _).trans (thru_at (qv m ρ c) (ov m ρ c) (fun g => k0_pay3 (kval m c g)) (fun g => k0_pay3 (vval m c g)) 0 (by omega) _ _ _ _ _ _ _ _ i n)
  | ⟨1, _⟩ =>
    exact (congrFun (part_1 m ρ c) _).trans (thru_at (qv m ρ c) (ov m ρ c) (fun g => k0_pay3 (kval m c g)) (fun g => k0_pay3 (vval m c g)) 128 (by omega) _ _ _ _ _ _ _ _ i n)
  | ⟨2, _⟩ =>
    exact (congrFun (part_2 m ρ c) _).trans (thru_at (qv m ρ c) (ov m ρ c) (fun g => k0_pay3 (kval m c g)) (fun g => k0_pay3 (vval m c g)) 256 (by omega) _ _ _ _ _ _ _ _ i n)
  | ⟨3, _⟩ =>
    exact (congrFun (part_3 m ρ c) _).trans (thru_at (qv m ρ c) (ov m ρ c) (fun g => k0_pay3 (kval m c g)) (fun g => k0_pay3 (vval m c g)) 384 (by omega) _ _ _ _ _ _ _ _ i n)

end Cert.KernelIdeal.Attn

end
-- ==== Proof.Kern.lean ====
/-
The kernel's result element by element: the sum of the four devices' parts, each read off the arguments.
-/
module

public import proofs.«01_k».proof.Proof.Heads
public import proofs.«01_k».proof.Proof.Spec
public import proofs.«01_k».proof.Proof.Deal
public import Idealize.ShloMosaic.Lib.Pipeline.ValueKit.Geometry

@[expose] public section

noncomputable section

namespace Cert.KernelIdeal.Attn

open Cert.KernelIdeal Cert.KernelIdeal.Gen
open Idealize.ShloMosaic Idealize.ShloMosaic.TcCoe Idealize.ShloMosaic.Pipeline

section
variable {F : FTy → Type} [FloatOps F] (m : (ℓ : Loc nD τ sig) → Buf (Elt F) ℓ) (ρ : Dev nD → PrngReg)

/-- The result's array after the run. -/
theorem finalA_out (c : Dev nD) : finalA m ρ c 3 = outAt m ρ c := by
  unfold finalA
  refine (dats m ρ 0 c).arrAt_eq_of_after_last (3 : Fin 4) t0_0 (by show win0_3.WholeAt t0_0; decide +kernel) _ fun j => ?_
  rfl

/-- The input's window starts at zero, -/
theorem win_index_0 : ∀ a, win0_0.index (0 : Fin 1) a = 0 := by decide +kernel
/-- as does the query weights' -/
theorem win_index_1 : ∀ a, win0_1.index (0 : Fin 1) a = 0 := by decide +kernel
/-- and the output weights'. -/
theorem win_index_2 : ∀ a, win0_2.index (0 : Fin 1) a = 0 := by decide +kernel

/-- The staged input is the argument, -/
theorem xstg_eq (c : Dev nD) : xstg m ρ c = m ((c : Thread nD τ).loc main_arg0) := by
  funext y
  unfold xstg
  blk_simp
  refine congrArg _ ?_
  blk_ext [win_index_0]

/-- the staged query weights the argument -/
theorem qstg_eq (c : Dev nD) : qstg m ρ c = m ((c : Thread nD τ).loc main_arg1) := by
  funext y
  unfold qstg
  blk_simp
  refine congrArg _ ?_
  blk_ext [win_index_1]

/-- and the staged output weights the argument. -/
theorem ostg_eq (c : Dev nD) : ostg m ρ c = m ((c : Thread nD τ).loc main_arg2) := by
  funext y
  unfold ostg
  blk_simp
  refine congrArg _ ?_
  blk_ext [win_index_2]

/-- Device `c`'s head `r` is head `2 c + r` of the whole. -/
theorem head_off (c : Dev nD) (r : Fin 2) : k0_off1 c (BitVec.ofNat 32 r.val) = ![0, 0, 2 * c.val + r.val, 0] := by
  revert c r; decide +kernel

/-- There are eight heads of keys. -/
theorem head_lt (c : Dev nD) (r : Fin 2) : 2 * c.val + r.val < 8 := by revert c r; decide

/-- One head's place in the keys or values. -/
theorem headR_emb (c : Dev nD) (r : Fin 2) (j : Fin 2048) (d : Fin 128) :
    (headR c r).emb (ix4 0 j 0 d) = ix4 0 j ⟨2 * c.val + r.val, head_lt c r⟩ d := by
  have h := head_off c r
  funext a
  refine Fin.ext ?_
  show k0_off1 c (BitVec.ofNat 32 r.val) a + 1 * ((ix4 (0 : Fin 1) j (0 : Fin 1) d : S1x2048x1x128.Idx) a).val = _
  rw [h]
  match a with
  | 0 => rfl
  | 1 => show 0 + 1 * j.val = j.val; omega
  | 2 => show 2 * c.val + r.val + 1 * 0 = 2 * c.val + r.val; omega
  | 3 => show 0 + 1 * d.val = d.val; omega

/-- An array without its axis of extent one, at an index. -/
theorem drop_at {α : Type} (t : S1x2048x1x128.Idx → α) (h : S1x2048x1x128.ShapeCasts S1x2048x128) (j : Fin 2048) (d : Fin 128) :
    shapeCast S1x2048x128 t h (ix3 0 j d) = t (ix4 0 j 0 d) := by
  pointwise

/-- Device `c`'s keys at an index, -/
theorem kval_at (c : Dev nD) (r : Fin 2) (j : Fin 2048) (d : Fin 128) :
    kval m c r (ix3 0 j d) = m ((c : Thread nD τ).loc main_arg3) (ix4 0 j ⟨2 * c.val + r.val, head_lt c r⟩ d) := by
  unfold kval
  rw [Shape.reshapeEquiv_symm]
  show m ((c : Thread nD τ).loc main_arg3) ((headR c r).emb (Shape.reshapeEquiv _ (Shape.reshapeEquiv _ _))) = _
  rw [Shape.reshapeEquiv_reshapeEquiv, ← headR_emb]
  exact drop_at (fun x => m ((c : Thread nD τ).loc main_arg3) ((headR c r).emb x)) _ j d

/-- and its values. -/
theorem vval_at (c : Dev nD) (r : Fin 2) (j : Fin 2048) (d : Fin 128) :
    vval m c r (ix3 0 j d) = m ((c : Thread nD τ).loc main_arg4) (ix4 0 j ⟨2 * c.val + r.val, head_lt c r⟩ d) := by
  unfold vval
  rw [Shape.reshapeEquiv_symm]
  show m ((c : Thread nD τ).loc main_arg4) ((headR c r).emb (Shape.reshapeEquiv _ (Shape.reshapeEquiv _ _))) = _
  rw [Shape.reshapeEquiv_reshapeEquiv, ← headR_emb]
  exact drop_at (fun x => m ((c : Thread nD τ).loc main_arg4) ((headR c r).emb x)) _ j d

end

variable (m : (ℓ : Loc nD τ sig) → Buf (Elt Ideal) ℓ) (ρ : Dev nD → PrngReg)

/-- The four parts added. -/
theorem fin_at (c : Dev nD) (b : Fin 4) (i : Fin 128) (n : Fin 1024) :
    fin m ρ c b (ix3 0 i n) = (part m ρ c b (ix2 i n) + part m ρ (peer0 c) b (ix2 i n))
      + (part m ρ (peer1 c) b (ix2 i n) + part m ρ (peer0 (peer1 c)) b (ix2 i n)) := by
  show k0_pay65 (k0_pay28 (po m ρ c b) (k0_pay14 (truncf .bf16 (part m ρ (peer0 c) b) bitsLt_bf16_f32)))
    (k0_pay29 (po m ρ (peer1 c) b) (k0_pay14 (truncf .bf16 (part m ρ (peer0 (peer1 c)) b) bitsLt_bf16_f32))) (ix3 0 i n) = _
  pointwise [k0_pay65, k0_pay28, k0_pay27, k0_pay29, k0_pay14, po]

/-- and in the devices' order. -/
theorem fin_sum (c : Dev nD) (b : Fin 4) (i : Fin 128) (n : Fin 1024) :
    fin m ρ c b (ix3 0 i n) = ∑ e : Dev nD, part m ρ e b (ix2 i n) := by
  rw [fin_at, Fin.sum_univ_four]
  generalize hf : (fun e => part m ρ e b (ix2 i n)) = f
  have e : ∀ e, part m ρ e b (ix2 i n) = f e := fun e => congrFun hf e
  simp only [e]
  have p : ∀ c : Dev nD, (c = 0 ∧ peer0 c = 1 ∧ peer1 c = 3 ∧ peer0 (peer1 c) = 2) ∨ (c = 1 ∧ peer0 c = 0 ∧ peer1 c = 2 ∧ peer0 (peer1 c) = 3)
      ∨ (c = 2 ∧ peer0 c = 3 ∧ peer1 c = 1 ∧ peer0 (peer1 c) = 0) ∨ (c = 3 ∧ peer0 c = 2 ∧ peer1 c = 0 ∧ peer0 (peer1 c) = 1) := by decide
  rcases p c with ⟨h, h0, h1, h2⟩ | ⟨h, h0, h1, h2⟩ | ⟨h, h0, h1, h2⟩ | ⟨h, h0, h1, h2⟩ <;> rw [h2, h1, h0, h] <;> abel

/-- The scaled queries at an index. -/
theorem qv_at (x : FVec Ideal S1x512x1024 .f32) (w : FVec Ideal S1024x1024 .f32) (c : Dev nD)
    (hx : m ((c : Thread nD τ).loc main_arg0) = x) (hw : m ((c : Thread nD τ).loc main_arg1) = w) (i : Fin 512) (n : Fin 1024) :
    qv m ρ c (ix2 i n) = (∑ e : Fin 1024, x (ix3 0 i e) * w (ix2 e n)) * Spec.scale := by
  unfold qv
  rw [xstg_eq, qstg_eq, hx, hw]
  exact pay1_at _ _ i n

/-- There are four devices. -/
theorem dev_lt (c : Dev nD) : c.val < 4 := c.isLt

section
variable (x : FVec Ideal S1x512x1024 .f32) (wq : (⟨2, ![1024, 4096]⟩ : Shape).Idx → EReal)
  (wo : (⟨2, ![4096, 1024]⟩ : Shape).Idx → EReal) (k v : FVec Ideal S1x2048x8x128 .f32)
  (hx : ∀ c : Dev nD, m ((c : Thread nD τ).loc main_arg0) = x)
  (hq : ∀ (c : Dev nD) (e n : Fin 1024), m ((c : Thread nD τ).loc main_arg1) (ix2 e n) = wq (ix2 e (Spec.col c n)))
  (ho : ∀ (c : Dev nD) (t n : Fin 1024), m ((c : Thread nD τ).loc main_arg2) (ix2 t n) = wo (ix2 (Spec.col c t) n))
  (hk : ∀ c : Dev nD, m ((c : Thread nD τ).loc main_arg3) = k)
  (hv : ∀ c : Dev nD, m ((c : Thread nD τ).loc main_arg4) = v)
include hx hq hk hv

/-- Device `c`'s column `t` of the heads' result is column `1024 c + t` of the whole. -/
theorem hav_eq (c : Dev nD) (b : Fin 4) (r : Fin 128) (i : Fin 512) (hi : 128 * b.val + r.val = i.val) (t : Fin 1024) :
    hav (qv m ρ c) (k0_pay3 (kval m c ⟨t.val / 512, by omega⟩)) (k0_pay3 (vval m c ⟨t.val / 512, by omega⟩)) (128 * b.val) (128 * (t.val / 128))
        (by omega) (by omega) r ⟨t.val % 128, by omega⟩
      = Spec.head x wq k v ⟨(c.val * 1024 + t.val) / 128, by have := dev_lt c; omega⟩ i ⟨(c.val * 1024 + t.val) % 128, by omega⟩ := by
  have hc := dev_lt c
  have ei : (⟨128 * b.val + r.val, by omega⟩ : Fin 512) = i := Fin.ext hi
  have eh : (⟨2 * c.val + t.val / 512, by omega⟩ : Fin 8) = ⟨(c.val * 1024 + t.val) / 128 / 4, by omega⟩ := Fin.ext (by dsimp only; omega)
  have ed : (⟨t.val % 128, by omega⟩ : Fin 128) = ⟨(c.val * 1024 + t.val) % 128, by omega⟩ := Fin.ext (by dsimp only; omega)
  have en : ∀ d : Fin 128, (⟨c.val * 1024 + (128 * (t.val / 128) + d.val), by omega⟩ : Fin 4096) = ⟨(c.val * 1024 + t.val) / 128 * 128 + d.val, by omega⟩ :=
    fun d => Fin.ext (by dsimp only; omega)
  unfold hav Spec.head
  refine congrArg₂ Soft.avg (funext fun j => ?_) (funext fun j => ?_)
  · refine Finset.sum_congr rfl fun d _ => ?_
    refine congrArg₂ (· * ·) ?_ ?_
    · rw [qv_at m ρ x _ c (hx c) rfl, ei]
      refine congrArg (· * Spec.scale) (Finset.sum_congr rfl fun e _ => congrArg (x (ix3 0 i e) * ·) ?_)
      rw [hq c]
      exact congrArg (fun y => wq (ix2 e y)) (en d)
    · rw [pay3_at, kval_at, hk c]
      exact congrArg (fun y => k (ix4 0 j y d)) eh
  · rw [pay3_at, vval_at, hv c, ed]
    exact congrArg (fun y => v (ix4 0 j y _)) eh

include ho

/-- The kernel's result at an index. -/
theorem outAt_at (c : Dev nD) (i : Fin 512) (n : Fin 1024) : outAt m ρ c (ix3 0 i n) = Spec.out x wq wo k v i n := by
  rw [Spec.out, Spec.sum_runs (a := 4) (b := 1024) rfl]
  have e0 : outAt m ρ c (ix3 0 i n) = fin m ρ c ⟨i.val / 128, by omega⟩ (ix3 0 ⟨i.val % 128, by omega⟩ n) := rfl
  rw [e0, fin_sum]
  refine Finset.sum_congr (M := EReal) rfl fun e _ => ?_
  rw [part_at]
  refine Finset.sum_congr rfl fun t _ => congrArg₂ (· * ·) (hav_eq m ρ x wq k v hx hq hk hv e _ _ i (by dsimp only; omega) t) ?_
  unfold ov
  rw [ostg_eq, pay2_at]
  exact ho e t n

end

end Cert.KernelIdeal.Attn

end
-- ==== Proof.Equal.lean ====
/-
The kernel's result is the reference's: what the precondition says of the arguments, and both results as the one formula.
-/
module

public import proofs.«01_k».proof.Defs
public import proofs.«01_k».proof.Proof.Ref
public import proofs.«01_k».proof.Proof.Kern
public import Idealize.ShloMosaic.Lib.ReduceAll

@[expose] public section

noncomputable section

namespace Cert.Equal

open Idealize.ShloMosaic

/-! ## The precondition -/

abbrev S0 : Shape := ⟨0, ![]⟩

/-- An extended real of absolute value below infinity is a real number. -/
theorem fin_of_lt (x : EReal) (h : Ideal.cmp .olt (max x (-x)) (Ideal.ofBits .f32 0x7F800000#32) = 1#1) : Soft.Fin' x := by
  have ht : Ideal.ofBits .f32 0x7F800000#32 = ⊤ := by simp [Ideal.ofBits, Ideal.ieee]
  rw [ht] at h
  have hl : max x (-x) < ⊤ := by
    by_contra hn
    simp only [Ideal.cmp, hn, decide_false] at h
    exact absurd h (by decide)
  refine Soft.fin_of_ne ?_ ?_
  · rintro rfl; exact absurd hl (by simp)
  · rintro rfl; exact absurd hl (by simp)

/-- An array whose every absolute value compares below infinity is an array of real numbers. -/
theorem fin_of_all {s : Shape} {axes : List (Fin s.rank)} (x : FVec Ideal s .f32) (hb : S0.BroadcastsInDim s (![] : Fin 0 → Fin s.rank))
    (hr : s.ReducesTo axes S0) (h0 : 0 < S0.numel) (j : S0.Idx)
    (e : Host.reduce IntOp.andi (cmpf .olt (Host.absf x) (broadcastInDim s ![] hb (constant S0 .f32 0x7F800000#32)) : IVec s 1)
      (constantI S0 1 1#1) hr h0 j = 1#1) (i : s.Idx) : Soft.Fin' (x i) := by
  have hs : Subsingleton S0.Idx := ⟨fun a b => funext fun y => y.elim0⟩
  exact fin_of_lt (x i) (Host.reduce_andi_all _ _ hr h0 j e i)

/-- The precondition's shape relations at one device's shapes, -/
theorem preK : Cert.Pre_finite_KernelIdeal.Facts := ⟨by decide, by decide, by decide, by decide, by decide, by decide, by decide⟩

/-- and at the reference's. -/
theorem preR : Cert.Pre_finite_ReferenceIdeal.Facts := ⟨by decide, by decide, by decide, by decide, by decide, by decide, by decide⟩

/-- What the precondition says of one device's blocks. -/
theorem fin_of_pre (x : FVec Ideal ⟨3, ![1, 512, 1024]⟩ .f32) (wq wo : FVec Ideal ⟨2, ![1024, 1024]⟩ .f32) (k v : FVec Ideal ⟨4, ![1, 2048, 8, 128]⟩ .f32)
    (h : @Cert.Pre_finite_KernelIdeal.fn preK Ideal _ x wq wo k v = fun _ => 1#1) :
    (∀ i, Soft.Fin' (x i)) ∧ (∀ i, Soft.Fin' (wq i)) ∧ ∀ i, Soft.Fin' (k i) := by
  have e := congrFun h ix0
  dsimp only [Cert.Pre_finite_KernelIdeal.fn] at e
  obtain ⟨e, ek⟩ := IntOp.andi_eq_one.1 e
  obtain ⟨ex, eq⟩ := IntOp.andi_eq_one.1 e
  exact ⟨fin_of_all x _ _ _ _ ex, fin_of_all wq _ _ _ _ eq, fin_of_all k _ _ _ _ ek⟩

/-! ## The two results -/

abbrev MK := (ℓ : Loc Cert.KernelIdeal.nD Cert.KernelIdeal.τ Cert.KernelIdeal.sig) → Buf (Elt Ideal) ℓ
abbrev MR := (ℓ : Loc Cert.ReferenceIdeal.nD Cert.ReferenceIdeal.τ Cert.ReferenceIdeal.sig) → Buf (Elt Ideal) ℓ

/-- The same formula of the whole arguments. -/
theorem results_eq (x : FVec Ideal ⟨3, ![1, 512, 1024]⟩ .f32) (wq : FVec Ideal ⟨2, ![1024, 4096]⟩ .f32) (wo : FVec Ideal ⟨2, ![4096, 1024]⟩ .f32)
    (k v : FVec Ideal ⟨4, ![1, 2048, 8, 128]⟩ .f32) (m : MK) (g : Dev Cert.KernelIdeal.nD → PrngReg)
    (hpre : ∀ c : Dev Cert.KernelIdeal.nD, @Cert.Pre_finite_KernelIdeal.fn preK Ideal _ (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1)
    (h : ∀ c : Dev Cert.KernelIdeal.nD, m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = Layout.block ⟨2, ![1024, 1024]⟩ ⟨2, ![1024, 4096]⟩ 1 4 c wq
      ∧ m ((c.tc : Thread Cert.KernelIdeal.nD Cert.KernelIdeal.τ).loc Cert.KernelIdeal.main_arg2) = Layout.block ⟨2, ![1024, 1024]⟩ ⟨2, ![4096, 1024]⟩ 0 4 c wo
      ∧ m ((c.tc : Thread Cert.KernelIdeal.nD Cert.KernelIdeal.τ).loc Cert.KernelIdeal.main_arg3) = k
      ∧ m ((c.tc : Thread Cert.KernelIdeal.nD Cert.KernelIdeal.τ).loc Cert.KernelIdeal.main_arg4) = v)
    (c : Dev Cert.KernelIdeal.nD) : KernelIdeal.Attn.outAt m g c = ReferenceIdeal.Attn.rAll x wq wo k v := by
  have hq : ∀ (c : Dev Cert.KernelIdeal.nD) (e n : Fin 1024), (m ((c.tc : Thread Cert.KernelIdeal.nD Cert.KernelIdeal.τ).loc Cert.KernelIdeal.main_arg1)) (ix2 e n)
      = wq (ix2 e (Spec.col c n)) := fun c e n => by
    rw [(h c).2.1]
    refine congrArg wq (funext fun a => Fin.ext ?_)
    match a with
    | 0 => rfl
    | 1 => rfl
  have ho : ∀ (c : Dev Cert.KernelIdeal.nD) (t n : Fin 1024), (m ((c.tc : Thread Cert.KernelIdeal.nD Cert.KernelIdeal.τ).loc Cert.KernelIdeal.main_arg2)) (ix2 t n)
      = wo (ix2 (Spec.col c t) n) := fun c t n => by
    rw [(h c).2.2.1]
    refine congrArg wo (funext fun a => Fin.ext ?_)
    match a with
    | 0 => rfl
    | 1 => rfl
  have hp := fun c => fin_of_pre _ _ _ _ _ (hpre c)
  have fx : ∀ y, Soft.Fin' (x y) := fun y => by have := (hp c).1 y; rw [(h c).1] at this; exact this
  have fk : ∀ y, Soft.Fin' (k y) := fun y => by have := (hp c).2.2 y; rw [(h c).2.2.2.1] at this; exact this
  have fq : ∀ y, Soft.Fin' (wq y) := fun y => by
    obtain ⟨e, n, rfl⟩ : ∃ (e : Fin 1024) (n : Fin 4096), y = ix2 e n := ⟨_, _, ValueIdx.eq_ix2 y⟩
    have hf := (hp (⟨n.val / 1024, by omega⟩ : Fin 4)).2.1 (ix2 e ⟨n.val % 1024, by omega⟩)
    rw [hq] at hf
    have en : Spec.col ⟨n.val / 1024, by omega⟩ ⟨n.val % 1024, by omega⟩ = n := Fin.ext (by dsimp only [Spec.col]; omega)
    rw [en] at hf
    exact hf
  funext y
  obtain ⟨z, i, n, rfl⟩ : ∃ (z : Fin 1) (i : Fin 512) (n : Fin 1024), y = ix3 z i n := ⟨_, _, _, ValueIdx.eq_ix3 y⟩
  obtain rfl : z = 0 := Subsingleton.elim _ _
  exact (KernelIdeal.Attn.outAt_at m g x wq wo k v (fun c => (h c).1) hq ho (fun c => (h c).2.2.2.1) (fun c => (h c).2.2.2.2) c i n).trans
    (ReferenceIdeal.Attn.rAll_at x wq wo k v fx fq fk i n).symm

end Cert.Equal

end
-- ==== Proof.lean ====
/-
The claims: the frames of the kernel, of its idealization and of the reference, and the equality of the results.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Deal
public import proofs.«01_k».proof.Proof.Equal
public import Idealize.ShloMosaic.Adequacy
public import Idealize.ShloMosaic.Init

@[expose] public section

noncomputable section

namespace Cert.Proof

open Idealize.ShloMosaic Idealize.SL.Sem

/-- The kernel's run over any float values: it terminates without fault, its five arguments end unchanged, and every counter
    ends at zero. -/
theorem ends_unchanged {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) _ _).mono
    (fun _ h => ⟨fun c => KernelIdeal.Attn.args_kept (F := F) m ρ _ h.1 c, h.2⟩) (KernelIdeal.Attn.run_main (F := F) m ρ)

/-- The kernel and its idealization have the same text, so the same body. -/
theorem bodies_eq : Kernel.cc0_body (F := Bits) = KernelIdeal.cc0_body (F := Bits) := by
  unfold Kernel.cc0_body KernelIdeal.cc0_body
  with_unfolding_all rfl

/-- The same body table, then. -/
theorem defs_eq : Kernel.defs (F := Bits) = KernelIdeal.defs (F := Bits) := by
  refine congrArg (Pipeline.defs (KernelIdeal.pcfgs (F := Bits))) ?_
  unfold Kernel.defs₀ KernelIdeal.defs₀
  refine congrArg (Defs.onTc) ?_
  funext l x
  match l, x with
  | 0, (t, s) =>
    dsimp only
    rw [bodies_eq]

/-- The kernel's frame at the machine's words. -/
theorem frame_kernel : Cert.quiescent_Kernel (hKernel := Cert.Kernel.Gen.facts) := fun m ρ _ => by
  rw [defs_eq]
  exact ends_unchanged (F := Bits) m ρ

/-- The frame of the kernel's idealization. -/
theorem frame_kernelIdeal : Cert.quiescent_KernelIdeal (hKernelIdeal := Cert.KernelIdeal.Gen.facts) := fun m ρ _ =>
  ends_unchanged (F := Ideal) m ρ

/-- The reference's frame: it is a line of tensor operations that writes no argument, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, funext nofun⟩) (Cert.ReferenceIdeal.Value.run (F := Ideal) m ρ)

/-- The kernel's run at the extended reals, with its result. -/
theorem kernel_result (m : Equal.MK) (g : Dev Cert.KernelIdeal.nD → PrngReg) (c : Dev Cert.KernelIdeal.nD)
    (r : PUnit × MemSt Cert.KernelIdeal.nD Cert.KernelIdeal.τ Cert.KernelIdeal.sig (Elt Ideal)) (h : KernelIdeal.Attn.QC m g r) :
    r.2.mem ((c.tc : Thread Cert.KernelIdeal.nD Cert.KernelIdeal.τ).loc Cert.KernelIdeal.main_v1) = KernelIdeal.Attn.outAt m g c :=
  ((h c).1 (3 : Fin 4)).trans (KernelIdeal.Attn.finalA_out m g c)

/-- From finite inputs, query weights and keys the kernel's every device ends holding the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Equal.preK) := fun m g m' g' hpre h =>
  ⟨ReferenceIdeal.Value.res_main_v59 m' 0,
    (θ_run (Cert.KernelIdeal.defs (F := Ideal)) _ _).mono
      (fun r hr c => ⟨(kernel_result m g c r hr.1).trans
        ((Equal.results_eq _ _ _ _ _ m g hpre h c).trans (ReferenceIdeal.Attn.res_eq m' 0).symm), KernelIdeal.Attn.args_kept m g r hr.1 c⟩)
      (KernelIdeal.Attn.run_main (F := Ideal) m g),
    (θ_run Cert.ReferenceIdeal.defs _ _).mono (fun _ hr => hr 0) (Cert.ReferenceIdeal.Value.run (F := Ideal) m' g')⟩

/-- Everything the certificate claims. -/
theorem claim : Cert.Claim := ⟨Cert.Kernel.Gen.facts, Cert.KernelIdeal.Gen.facts, Cert.ReferenceIdeal.Gen.facts, Equal.preK, Equal.preR,
  frame_kernel, frame_kernelIdeal, fun m g _ => ends_unchanged (F := Ideal) m g, frame_reference, fun m g _ => frame_reference m g trivial,
  trivial, algebraic⟩

end Cert.Proof

end
